-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_amax_zero_or_normal [hPre_amax_zero_or_normal : Cert.Pre_amax_zero_or_normal.Facts] (m : (ℓ : Loc Cert.KernelIdeal.nD Cert.KernelIdeal.τ Cert.KernelIdeal.sig) → Buf (Elt Ideal) ℓ) : Prop :=
  ∀ c : Dev Cert.KernelIdeal.nD,
    (Cert.Pre_amax_zero_or_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_amax_zero_or_normal [hPre_amax_zero_or_normal : Cert.Pre_amax_zero_or_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_amax_zero_or_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_amax_zero_or_normal [hKernelIdeal : Cert.KernelIdeal.Facts] [hPre_amax_zero_or_normal : Cert.Pre_amax_zero_or_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_amax_zero_or_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_amax_zero_or_normal [hReferenceIdeal : Cert.ReferenceIdeal.Facts] [hPre_amax_zero_or_normal : Cert.Pre_amax_zero_or_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_amax_zero_or_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_amax_zero_or_normal [hKernelIdeal : Cert.KernelIdeal.Facts] [hReferenceIdeal : Cert.ReferenceIdeal.Facts] [hPre_amax_zero_or_normal : Cert.Pre_amax_zero_or_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_amax_zero_or_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_3)) (v3 : (c : Dev Cert.KernelIdeal.nD) → Buf (Elt Ideal) ((c.tc : Thread Cert.KernelIdeal.nD Cert.KernelIdeal.τ).loc Cert.KernelIdeal.main_v4_2)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_3) = v2 c
          ∧ r.2.mem ((c.tc : Thread Cert.KernelIdeal.nD Cert.KernelIdeal.τ).loc Cert.KernelIdeal.main_v4_2) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_v4_3) = v3 c
          ∧ r.2.mem ((c.tc : Thread Cert.ReferenceIdeal.nD Cert.ReferenceIdeal.τ).loc Cert.ReferenceIdeal.main_v4_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_amax_zero_or_normal : Cert.Pre_amax_zero_or_normal.Facts),
    quiescent_Kernel (hKernel := hKernel)
    ∧ quiescent_KernelIdeal (hKernelIdeal := hKernelIdeal)
    ∧ quiescent_KernelIdeal_pre_amax_zero_or_normal (hKernelIdeal := hKernelIdeal) (hPre_amax_zero_or_normal := hPre_amax_zero_or_normal)
    ∧ quiescent_ReferenceIdeal (hReferenceIdeal := hReferenceIdeal)
    ∧ quiescent_ReferenceIdeal_pre_amax_zero_or_normal (hReferenceIdeal := hReferenceIdeal) (hPre_amax_zero_or_normal := hPre_amax_zero_or_normal)
    ∧ preserves_Kernel_KernelIdeal
    ∧ algebraic_KernelIdeal_ReferenceIdeal_pre_amax_zero_or_normal (hKernelIdeal := hKernelIdeal) (hReferenceIdeal := hReferenceIdeal) (hPre_amax_zero_or_normal := hPre_amax_zero_or_normal)
-- ==== Pre_amax_zero_or_normal.lean ====
abbrev S6x256x1024 : Shape := ⟨3, ![6, 256, 1024]⟩
abbrev S6x256x5120 : Shape := ⟨3, ![6, 256, 5120]⟩
abbrev S_ : Shape := ⟨0, ![]⟩
abbrev S1024x5120 : Shape := ⟨2, ![1024, 5120]⟩

class Facts : Prop where
  bitsLt_bf16_f32 : FTy.bits .bf16 < FTy.bits .f32
  reducesTo_S6x256x1024_S_d0_1_2 : S6x256x1024.ReducesTo [0, 1, 2] S_
  h_S_ : 0 < S_.numel

variable [Facts]

def fn {F : FTy → Type} [FloatOps F] (main_arg0 : FVec F S6x256x1024 .bf16) (main_arg1 : FVec F S6x256x5120 .fp8e4m3) (main_arg2 : FVec F S_ .f32) (main_arg3 : FVec F S1024x5120 .fp8e4m3) (main_arg4 : FVec F S_ .f32) (main_arg5 : FVec F S1024x5120 .f32) : IVec S_ 1 :=
  let main_v0 : FVec F S6x256x1024 .f32 := (extf .f32 · bitsLt_bf16_f32) main_arg0
  let main_v1 : FVec F S6x256x1024 .f32 := Host.absf main_v0
  let main_cst : FVec F S_ .f32 := constant S_ .f32 0xFF800000#32
  let main_v2 : FVec F S_ .f32 := (fun x v => Host.reduce FloatOps.maximumf x v reducesTo_S6x256x1024_S_d0_1_2 h_S_) main_v1 main_cst
  let main_cst_0 : FVec F S_ .f32 := constant S_ .f32 0x37924925#32
  let main_v3 : FVec F S_ .f32 := mulf main_v2 main_cst_0
  let main_cst_1 : FVec F S_ .f32 := constant S_ .f32 0x00000000#32
  let main_v4 : IVec S_ 1 := cmpf .oeq main_v3 main_cst_1
  let main_cst_2 : FVec F S_ .f32 := constant S_ .f32 0x00800000#32
  let main_v5 : IVec S_ 1 := cmpf .oge main_v3 main_cst_2
  let main_cst_3 : FVec F S_ .f32 := constant S_ .f32 0x7E800000#32
  let main_v6 : IVec S_ 1 := cmpf .olt main_v3 main_cst_3
  let main_v7 : IVec S_ 1 := andi main_v5 main_v6
  let main_v8 : IVec S_ 1 := ori main_v4 main_v7
  main_v8
-- ==== Kernel.lean ====
abbrev S6x256x1024 : Shape := ⟨3, ![6, 256, 1024]⟩
abbrev S6x256x5120 : Shape := ⟨3, ![6, 256, 5120]⟩
abbrev S_ : Shape := ⟨0, ![]⟩
abbrev S1024x5120 : Shape := ⟨2, ![1024, 5120]⟩
abbrev S1 : Shape := ⟨1, ![1]⟩
abbrev S1536x1024 : Shape := ⟨2, ![1536, 1024]⟩
abbrev S1536x5120 : Shape := ⟨2, ![1536, 5120]⟩
abbrev S1536x512 : Shape := ⟨2, ![1536, 512]⟩
abbrev S1024x512 : Shape := ⟨2, ![1024, 512]⟩
abbrev S1024x1536 : Shape := ⟨2, ![1024, 1536]⟩
abbrev S16x1024 : Shape := ⟨2, ![16, 1024]⟩
abbrev S1x16x1024 : Shape := ⟨3, ![1, 16, 1024]⟩
abbrev S1x1x1 : Shape := ⟨3, ![1, 1, 1]⟩
abbrev S1x1 : Shape := ⟨2, ![1, 1]⟩
abbrev S8x128 : Shape := ⟨2, ![8, 128]⟩
abbrev S256x1024 : Shape := ⟨2, ![256, 1024]⟩
abbrev S1024x256 : Shape := ⟨2, ![1024, 256]⟩

abbrev nBuf : Space → Nat
  | .hbm => 15
  | .vmem => 13
  | .smem => 5
  | _ => 0

abbrev bufTy : (tb : Table) → Fin (tcTables nBuf tb) → BufTy
  | .hbm, ⟨0, _⟩ => ⟨S6x256x1024, .bf16⟩
  | .hbm, ⟨1, _⟩ => ⟨S6x256x5120, .fp8e4m3⟩
  | .hbm, ⟨2, _⟩ => ⟨S_, .f32⟩
  | .hbm, ⟨3, _⟩ => ⟨S1024x5120, .fp8e4m3⟩
  | .hbm, ⟨4, _⟩ => ⟨S_, .f32⟩
  | .hbm, ⟨5, _⟩ => ⟨S1024x5120, .f32⟩
  | .hbm, ⟨6, _⟩ => ⟨S1, .f32⟩
  | .hbm, ⟨7, _⟩ => ⟨S1, .f32⟩
  | .hbm, ⟨8, _⟩ => ⟨S1536x1024, .bf16⟩
  | .hbm, ⟨9, _⟩ => ⟨S1536x5120, .fp8e4m3⟩
  | .hbm, ⟨10, _⟩ => ⟨S1536x5120, .bf16⟩
  | .hbm, ⟨11, _⟩ => ⟨S1024x5120, .f32⟩
  | .hbm, ⟨12, _⟩ => ⟨S1536x1024, .fp8e5m2⟩
  | .hbm, ⟨13, _⟩ => ⟨S1, .f32⟩
  | .hbm, ⟨14, _⟩ => ⟨S1, .f32⟩
  | .local _ .vmem, ⟨0, _⟩ => ⟨S1536x1024, .bf16⟩
  | .local _ .vmem, ⟨1, _⟩ => ⟨S1536x512, .fp8e4m3⟩
  | .local _ .vmem, ⟨2, _⟩ => ⟨S1536x512, .fp8e4m3⟩
  | .local _ .vmem, ⟨3, _⟩ => ⟨S1024x512, .fp8e4m3⟩
  | .local _ .vmem, ⟨4, _⟩ => ⟨S1024x512, .fp8e4m3⟩
  | .local _ .vmem, ⟨5, _⟩ => ⟨S1024x512, .f32⟩
  | .local _ .vmem, ⟨6, _⟩ => ⟨S1024x512, .f32⟩
  | .local _ .vmem, ⟨7, _⟩ => ⟨S1536x512, .bf16⟩
  | .local _ .vmem, ⟨8, _⟩ => ⟨S1536x512, .bf16⟩
  | .local _ .vmem, ⟨9, _⟩ => ⟨S1024x512, .f32⟩
  | .local _ .vmem, ⟨10, _⟩ => ⟨S1024x512, .f32⟩
  | .local _ .vmem, ⟨11, _⟩ => ⟨S1536x1024, .fp8e5m2⟩
  | .local _ .vmem, ⟨12, _⟩ => ⟨S1024x1536, .fp8e5m2⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_scratch0 : Ref sig .tc := ⟨.vmem, 12, rfl⟩
abbrev cc0_stg0_0 : Ref sig .tc := ⟨.smem, 0, rfl⟩
abbrev cc0_stg1_0 : Ref sig .tc := ⟨.smem, 1, rfl⟩
abbrev cc0_stg9_0 : Ref sig .tc := ⟨.smem, 2, rfl⟩
abbrev cc0_stg10_0 : Ref sig .tc := ⟨.smem, 3, rfl⟩
abbrev cc0_scratch1 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1536x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1536x1024 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S6x256x1024 : Shape := ⟨3, ![6, 256, 1024]⟩
abbrev S6x256x5120 : Shape := ⟨3, ![6, 256, 5120]⟩
abbrev S_ : Shape := ⟨0, ![]⟩
abbrev S1024x5120 : Shape := ⟨2, ![1024, 5120]⟩
abbrev S1 : Shape := ⟨1, ![1]⟩
abbrev S1536x1024 : Shape := ⟨2, ![1536, 1024]⟩
abbrev S1536x5120 : Shape := ⟨2, ![1536, 5120]⟩
abbrev S1x1536x1024 : Shape := ⟨3, ![1, 1536, 1024]⟩
abbrev S1x1x1 : Shape := ⟨3, ![1, 1, 1]⟩
abbrev S1x1 : Shape := ⟨2, ![1, 1]⟩

abbrev nBuf : Space → Nat
  | .hbm => 15
  | .vmem => 7
  | .smem => 4
  | _ => 0

abbrev bufTy : (tb : Table) → Fin (tcTables nBuf tb) → BufTy
  | .hbm, ⟨0, _⟩ => ⟨S6x256x1024, .bf16⟩
  | .hbm, ⟨1, _⟩ => ⟨S6x256x5120, .fp8e4m3⟩
  | .hbm, ⟨2, _⟩ => ⟨S_, .f32⟩
  | .hbm, ⟨3, _⟩ => ⟨S1024x5120, .fp8e4m3⟩
  | .hbm, ⟨4, _⟩ => ⟨S_, .f32⟩
  | .hbm, ⟨5, _⟩ => ⟨S1024x5120, .f32⟩
  | .hbm, ⟨6, _⟩ => ⟨S1, .f32⟩
  | .hbm, ⟨7, _⟩ => ⟨S1, .f32⟩
  | .hbm, ⟨8, _⟩ => ⟨S1536x1024, .bf16⟩
  | .hbm, ⟨9, _⟩ => ⟨S1536x5120, .fp8e4m3⟩
  | .hbm, ⟨10, _⟩ => ⟨S1536x5120, .bf16⟩
  | .hbm, ⟨11, _⟩ => ⟨S1024x5120, .f32⟩
  | .hbm, ⟨12, _⟩ => ⟨S1, .f32⟩
  | .hbm, ⟨13, _⟩ => ⟨S1536x1024, .fp8e5m2⟩
  | .hbm, ⟨14, _⟩ => ⟨S1, .f32⟩
  | .local _ .vmem, ⟨0, _⟩ => ⟨S1536x1024, .bf16⟩
  | .local _ .vmem, ⟨1, _⟩ => ⟨S1536x5120, .fp8e4m3⟩
  | .local _ .vmem, ⟨2, _⟩ => ⟨S1024x5120, .fp8e4m3⟩
  | .local _ .vmem, ⟨3, _⟩ => ⟨S1024x5120, .f32⟩
  | .local _ .vmem, ⟨4, _⟩ => ⟨S1536x5120, .bf16⟩
  | .local _ .vmem, ⟨5, _⟩ => ⟨S1024x5120, .f32⟩
  | .local _ .vmem, ⟨6, _⟩ => ⟨S1536x1024, .fp8e5m2⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | _, _ => ⟨S6x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg9_0 : Ref sig .tc := ⟨.vmem, 6, rfl⟩
abbrev cc0_stg0_0 : Ref sig .tc := ⟨.smem, 0, rfl⟩
abbrev cc0_stg1_0 : Ref sig .tc := ⟨.smem, 1, rfl⟩
abbrev cc0_stg8_0 : Ref sig .tc := ⟨.smem, 2, rfl⟩
abbrev cc0_stg10_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1536x1024 .fp8e5m2 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .smem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.KRuns.lean ====
/-
  What the two runs of the kernel body (at the first grid point, and at the other nine) share: the condition of the
  body's conditional in closed form, where the windows are idle, the staging and scratch memrefs by name, and the
  region's invariant with the two scratch buffers split out.
-/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x1024 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .smem S1 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x1536 .fp8e5m2 := Memref.whole cc0_scratch0
abbrev scM0_1 : Memref sig .tc .smem S1 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KRunA.lean ====
/-
  The kernel body at the first grid point: it quantises the gradient into the codes window and the two scratch
  buffers, then does the two products of its column block.
-/
module

public import proofs.«01_k».proof.Proof.KRuns

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, at the first point, in each output's staging memref and in each scratch buffer, as
    lists of pieces (last first), with the proof that on whole memrefs the body runs to a continuation that holds the
    inputs as they were and every other buffer with its pieces written. -/
noncomputable def runA (c : Dev nD) (i : grid0.Coords) (arg1 : Memref sig .tc .smem S1 .f32) (harg1 : arg1.IsWhole) (arg2 : Memref sig .tc .smem S1 .f32) (harg2 : arg2.IsWhole) (arg3 : Memref sig .tc .vmem S1536x1024 .bf16) (harg3 : arg3.IsWhole) (arg4 : Memref sig .tc .vmem S1536x512 .fp8e4m3) (harg4 : arg4.IsWhole) (arg5 : Memref sig .tc .vmem S1024x512 .fp8e4m3) (harg5 : arg5.IsWhole) (arg6 : Memref sig .tc .vmem S1024x512 .f32) (harg6 : arg6.IsWhole) (arg7 : Memref sig .tc .vmem S1536x512 .bf16) (harg7 : arg7.IsWhole) (arg8 : Memref sig .tc .vmem S1024x512 .f32) (harg8 : arg8.IsWhole) (arg9 : Memref sig .tc .vmem S1536x1024 .fp8e5m2) (harg9 : arg9.IsWhole) (arg10 : Memref sig .tc .smem S1 .f32) (harg10 : arg10.IsWhole) (arg11 : Memref sig .tc .smem S1 .f32) (harg11 : arg11.IsWhole) (arg12 : Memref sig .tc .vmem S1024x1536 .fp8e5m2) (harg12 : arg12.IsWhole) (arg13 : Memref sig .tc .smem S1 .f32) (harg13 : arg13.IsWhole) (hc0 : cond0_0 i)
    (x0 : Vec F S1 .f32) (x1 : Vec F S1 .f32) (x2 : Vec F S1536x1024 .bf16) (x3 : Vec F S1536x512 .fp8e4m3) (x4 : Vec F S1024x512 .fp8e4m3) (x5 : Vec F S1024x512 .f32) :
    Σ' (L7 : List (View.Piece (Elt F) S1536x512 .bf16)), Σ' (L8 : List (View.Piece (Elt F) S1024x512 .f32)), Σ' (L9 : List (View.Piece (Elt F) S1536x1024 .fp8e5m2)), Σ' (L10 : List (View.Piece (Elt F) S1 .f32)), Σ' (L11 : List (View.Piece (Elt F) S1 .f32)), Σ' (L12 : List (View.Piece (Elt F) S1024x1536 .fp8e5m2)), { L13 : List (View.Piece (Elt F) S1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0__body_eq_skeleton]; unfold cc0__body_skel
    simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %g7, -, G7⟩, ⟨%d8, %g8, -, G8⟩, ⟨%d9, %g9, -, G9⟩, ⟨%d10, %g10, -, G10⟩, ⟨%d11, %g11, -, G11⟩, ⟨%d12, %g12, -, G12⟩, ⟨%d13, %g13, -, G13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [G7]
    · iexists _; iexact G7
    isplitl [G8]
    · iexists _; iexact G8
    isplitl [G9]
    · iexists _; iexact G9
    isplitl [G10]
    · iexists _; iexact G10
    isplitl [G11]
    · iexists _; iexact G11
    isplitl [G12]
    · iexists _; iexact G12
    iexists _; iexact G13

end Cert.KernelIdeal.Hand

end
-- ==== Proof.PowTwo.lean ====
/-
  The scale's arithmetic over the extended reals: the exponent field that the kernel finds by comparing with powers of
  two, the two powers of two it makes from that field, and the same two powers as the reference writes them, by a
  logarithm and a floor. They agree where the number is zero or in the range of the normal numbers whose reciprocal
  power is normal too.
-/
module

public import Idealize.ShloMosaic.PureOps.Ideal
public import Idealize.ShloMosaic.PureOps.Ideal.Laws

@[expose] public section

noncomputable section

namespace Cert.PowTwo

open Idealize.ShloMosaic

/-! ## The kernel's search for the exponent field -/

/-- The float whose exponent field is the word `w` and whose other bits are zero. -/
def pow (w : BitVec 32) : EReal := Ideal.ofBits .f32 (IntOp.shli .vector w 23#32)

/-- One step of the search: the field grows by `s` where `a` is not below the power at the grown field. -/
def step (a : EReal) (b s : BitVec 32) : BitVec 32 := Scalar.select (Ideal.cmp .olt a (pow (b + s))) b (b + s)

/-- The first five steps of the search. -/
def field5 (a : EReal) : BitVec 32 := step a (step a (step a (step a (step a 0#32 128#32) 64#32) 32#32) 16#32) 8#32

/-- The exponent field of `a`. -/
def field (a : EReal) : BitVec 32 := step a (step a (step a (field5 a) 4#32) 2#32) 1#32

/-- The exponent of the scale: zero where `a` is zero or has the last field, otherwise the field less 126. -/
def exponent (a : EReal) : BitVec 32 :=
  Scalar.select (Ideal.cmp .oeq a (Ideal.ofBits .f32 0x00000000#32) ||| IntOp.cmpi .eq (field a) 255#32) 0#32 (field a - 126#32)

/-- The kernel's scale. -/
def kScale (a : EReal) : EReal := pow (exponent a + 127#32)

/-- The kernel's reciprocal of the scale. -/
def kInv (a : EReal) : EReal := pow (0#32 - exponent a + 127#32)

/-- The bits of a word below 256 shifted to the exponent field: no sign, the word, no fraction. -/
theorem bits_shift : ∀ w : Fin 256,
    ((IntOp.shli .vector (BitVec.ofNat 32 w.val) 23#32).extractLsb' 31 1 == 1#1) = false
      ∧ ((IntOp.shli .vector (BitVec.ofNat 32 w.val) 23#32).extractLsb' 23 8).toNat = w.val
      ∧ ((IntOp.shli .vector (BitVec.ofNat 32 w.val) 23#32).extractLsb' 0 23).toNat = 0 := by
  decide +kernel

/-- The power at a normal field. -/
theorem pow_normal (w : ℕ) (h1 : 1 ≤ w) (h2 : w ≤ 254) :
    pow (BitVec.ofNat 32 w) = (((2 : ℝ) ^ ((w : ℤ) - 127) : ℝ) : EReal) := by
  obtain ⟨hs, he, hf⟩ := bits_shift ⟨w, by omega⟩
  simp only at hs he hf
  have e : pow (BitVec.ofNat 32 w) = Ideal.ieee 8 23 (IntOp.shli .vector (BitVec.ofNat 32 w) 23#32) := rfl
  rw [e]
  simp only [Ideal.ieee]
  rw [hs, he, hf, if_neg (by norm_num; omega), if_neg (by omega)]
  refine congrArg (Real.toEReal) ?_
  have h3 : ((w : ℤ) - (2 ^ (8 - 1) - 1) - (23 : ℕ)) = ((w : ℤ) - 127) - 23 := by norm_num
  rw [h3, zpow_sub₀ (two_ne_zero)]
  norm_num
  ring

/-- The power at the last field is the infinity. -/
theorem pow_last : pow 255#32 = ⊤ := by
  have e : pow 255#32 = Ideal.ieee 8 23 (IntOp.shli .vector 255#32 23#32) := rfl
  rw [e]
  obtain ⟨hs, he, hf⟩ := bits_shift ⟨255, by omega⟩
  simp only [BitVec.ofNat_eq_ofNat] at hs he hf
  simp only [Ideal.ieee]
  rw [hs, he, hf]
  simp

/-- The binary logarithm of `a`, rounded down, is `n`. -/
def Near (a : ℝ) (n : ℤ) : Prop := (2 : ℝ) ^ n ≤ a ∧ a < (2 : ℝ) ^ (n + 1)

/-- Below a power at a field means a smaller binary logarithm. -/
theorem lt_pow_iff {a : ℝ} {n : ℤ} (hn : Near a n) (ha : 0 < a) (h1 : -126 ≤ n) (h2 : n ≤ 125) (w : ℕ) (hw1 : 1 ≤ w)
    (hw2 : w ≤ 255) : (a : EReal) < pow (BitVec.ofNat 32 w) ↔ (n + 127).toNat < w := by
  rcases Nat.lt_or_ge w 255 with h | h
  · rw [pow_normal w hw1 (by omega), EReal.coe_lt_coe_iff]
    constructor
    · intro h'
      have := (zpow_lt_zpow_iff_right₀ (by norm_num : (1 : ℝ) < 2)).mp (lt_of_le_of_lt hn.1 h')
      omega
    · intro h'
      exact lt_of_lt_of_le hn.2 (zpow_le_zpow_right₀ (by norm_num) (by omega))
  · obtain rfl : w = 255 := by omega
    rw [show BitVec.ofNat 32 255 = 255#32 from rfl, pow_last]
    simp only [EReal.coe_lt_top, true_iff]; omega

/-- One step on numbers. -/
def nstep (B b s : ℕ) : ℕ := if B < b + s then b else b + s

theorem step_eq {a : ℝ} {n : ℤ} (hn : Near a n) (ha : 0 < a) (h1 : -126 ≤ n) (h2 : n ≤ 125) (b s : ℕ) (hw1 : 1 ≤ s)
    (hw2 : b + s ≤ 255) : step a (BitVec.ofNat 32 b) (BitVec.ofNat 32 s) = BitVec.ofNat 32 (nstep (n + 127).toNat b s) := by
  have hw := lt_pow_iff hn ha h1 h2 (b + s) (by omega) hw2
  unfold step nstep
  rw [← BitVec.ofNat_add]
  simp only [Scalar.select, Ideal.cmp, decide_eq_decide.mpr hw]
  by_cases h : (n + 127).toNat < b + s <;> simp [h]

/-- The search by numbers. -/
def nfield (B : ℕ) : ℕ :=
  nstep B (nstep B (nstep B (nstep B (nstep B (nstep B (nstep B (nstep B 0 128) 64) 32) 16) 8) 4) 2) 1

theorem nfield_eq : ∀ B : Fin 256, nfield B.val = B.val := by decide +kernel

theorem nstep_le (B b s : ℕ) : nstep B b s ≤ b + s := by unfold nstep; split <;> omega

/-- The search finds the exponent field of a normal number. -/
theorem field_eq {a : ℝ} {n : ℤ} (hn : Near a n) (ha : 0 < a) (h1 : -126 ≤ n) (h2 : n ≤ 125) :
    field a = BitVec.ofNat 32 (n + 127).toNat := by
  have hs := step_eq hn ha h1 h2
  have hB := nfield_eq ⟨(n + 127).toNat, by omega⟩
  simp only at hB
  conv_rhs => rw [← hB]
  generalize (n + 127).toNat = B at hs
  unfold field field5 nfield
  have l := nstep_le B
  have l0 := l 0 128
  rw [show (0#32) = BitVec.ofNat 32 0 from rfl, show (128#32) = BitVec.ofNat 32 128 from rfl, hs 0 128 (by omega) (by omega)]
  generalize nstep B 0 128 = b0 at *
  have l1 := l b0 64
  rw [show (64#32) = BitVec.ofNat 32 64 from rfl, hs b0 64 (by omega) (by omega)]
  generalize nstep B b0 64 = b1 at *
  have l2 := l b1 32
  rw [show (32#32) = BitVec.ofNat 32 32 from rfl, hs b1 32 (by omega) (by omega)]
  generalize nstep B b1 32 = b2 at *
  have l3 := l b2 16
  rw [show (16#32) = BitVec.ofNat 32 16 from rfl, hs b2 16 (by omega) (by omega)]
  generalize nstep B b2 16 = b3 at *
  have l4 := l b3 8
  rw [show (8#32) = BitVec.ofNat 32 8 from rfl, hs b3 8 (by omega) (by omega)]
  generalize nstep B b3 8 = b4 at *
  have l5 := l b4 4
  rw [show (4#32) = BitVec.ofNat 32 4 from rfl, hs b4 4 (by omega) (by omega)]
  generalize nstep B b4 4 = b5 at *
  have l6 := l b5 2
  rw [show (2#32) = BitVec.ofNat 32 2 from rfl, hs b5 2 (by omega) (by omega)]
  generalize nstep B b5 2 = b6 at *
  rw [show (1#32) = BitVec.ofNat 32 1 from rfl, hs b6 1 (by omega) (by omega)]

/-! ## The reference's powers -/

/-- The reference's exponent, a real number: zero where the maximum is, otherwise the floor of the binary logarithm plus one. -/
def rExp (m a : EReal) : EReal :=
  Scalar.select (Ideal.cmp .oeq m (Ideal.ofBits .f32 0x00000000#32)) (Ideal.ofBits .f32 0x00000000#32)
    (Ideal.liftRound Int.floor (Ideal.div (Ideal.log a) (Ideal.log (Ideal.ofBits .f32 0x40000000#32))) + Ideal.ofBits .f32 0x3F800000#32)

/-- At zero both scales are one. -/
theorem scale_zero : kScale 0 = 1 ∧ kInv 0 = 1 := by
  have he : exponent 0 = 0#32 := by
    unfold exponent
    rw [Ideal.ofBits_zero_f32]
    simp only [Ideal.cmp, decide_true, BitVec.ofBool_true, Scalar.select]
    rw [if_pos]
    generalize IntOp.cmpi .eq (field 0) 255#32 = z
    revert z; decide
  have h := pow_normal 127 (by omega) (by omega)
  norm_num at h
  unfold kScale kInv
  rw [he]
  exact ⟨h, h⟩

/-- At a normal number with binary logarithm `n` the kernel's scale is the power `n + 1` and its reciprocal the opposite power. -/
theorem scale_normal {a : ℝ} {n : ℤ} (hn : Near a n) (ha : 0 < a) (h1 : -126 ≤ n) (h2 : n ≤ 125) :
    kScale a = (((2 : ℝ) ^ (n + 1) : ℝ) : EReal) ∧ kInv a = (((2 : ℝ) ^ (-(n + 1)) : ℝ) : EReal) := by
  have hf := field_eq hn ha h1 h2
  have hB1 : 1 ≤ (n + 127).toNat := by omega
  have hB2 : (n + 127).toNat ≤ 252 := by omega
  have hn' : n = ((n + 127).toNat : ℤ) - 127 := by omega
  have hw : ∀ B : Fin 253, BitVec.ofNat 32 B.val - 126#32 + 127#32 = BitVec.ofNat 32 (B.val + 1)
      ∧ 0#32 - (BitVec.ofNat 32 B.val - 126#32) + 127#32 = BitVec.ofNat 32 (253 - B.val)
      ∧ IntOp.cmpi .eq (BitVec.ofNat 32 B.val) 255#32 = 0#1 := by decide +kernel
  obtain ⟨w1, w2, w3⟩ := hw ⟨(n + 127).toNat, by omega⟩
  simp only at w1 w2 w3
  have he : exponent a = BitVec.ofNat 32 (n + 127).toNat - 126#32 := by
    unfold exponent
    rw [Ideal.ofBits_zero_f32, hf, w3]
    have hne : ¬((a : EReal) = 0) := by
      rw [EReal.coe_eq_zero]; exact ha.ne'
    simp [Ideal.cmp, Scalar.select, hne]
  unfold kScale kInv
  rw [he, w1, w2, pow_normal _ (by omega) (by omega), pow_normal _ (by omega) (by omega)]
  constructor
  · congr 2; omega
  · congr 2; omega

/-- The pattern of two. -/
theorem ofBits_two : Ideal.ofBits .f32 0x40000000#32 = ((2 : ℝ) : EReal) := by
  simp [Ideal.ofBits, Ideal.ieee, -EReal.coe_mul]; norm_num

/-- The pattern of one. -/
theorem ofBits_one : Ideal.ofBits .f32 0x3F800000#32 = ((1 : ℝ) : EReal) := by
  simp [Ideal.ofBits, Ideal.ieee, -EReal.coe_mul]; norm_num

/-- The reference's exponent at a positive number whose binary logarithm is `n`. -/
theorem rExp_normal {m : EReal} {a : ℝ} {n : ℤ} (hm : m ≠ 0) (hn : Near a n) (ha : 0 < a) :
    rExp m a = (((n + 1 : ℤ) : ℝ) : EReal) := by
  unfold rExp
  have h2 : (0 : ℝ) < 2 := by norm_num
  have hl : Real.log 2 ≠ 0 := (Real.log_pos (by norm_num)).ne'
  rw [Ideal.ofBits_zero_f32, ofBits_two, ofBits_one]
  have e1 : Ideal.log (a : EReal) = (Real.log a : EReal) := by
    show (if a ≤ 0 then ⊥ else (Real.log a : EReal)) = _
    rw [if_neg (not_le.mpr ha)]
  have e2 : Ideal.log ((2 : ℝ) : EReal) = (Real.log 2 : EReal) := by
    show (if (2 : ℝ) ≤ 0 then ⊥ else (Real.log 2 : EReal)) = _
    rw [if_neg (not_le.mpr h2)]
  have e3 : Ideal.div (Real.log a : EReal) (Real.log 2 : EReal) = ((Real.log a / Real.log 2 : ℝ) : EReal) := by
    unfold Ideal.div
    rw [if_neg (by rw [EReal.coe_eq_zero]; exact hl), div_eq_mul_inv, EReal.coe_mul, EReal.coe_inv]
  rw [e1, e2, e3]
  have e4 : Ideal.liftRound Int.floor ((Real.log a / Real.log 2 : ℝ) : EReal) = ((n : ℝ) : EReal) := by
    show (((⌊Real.log a / Real.log 2⌋ : ℤ) : ℝ) : EReal) = _
    have hlp : 0 < Real.log 2 := Real.log_pos (by norm_num)
    rw [show ⌊Real.log a / Real.log 2⌋ = n from ?_]
    rw [Int.floor_eq_iff]
    constructor
    · rw [le_div_iff₀ hlp, ← Real.log_zpow]
      exact Real.log_le_log (by positivity) hn.1
    · rw [div_lt_iff₀ hlp, show ((n : ℝ) + 1) = ((n + 1 : ℤ) : ℝ) by push_cast; ring, ← Real.log_zpow]
      exact Real.log_lt_log ha hn.2
  rw [e4]
  simp [Ideal.cmp, Scalar.select, hm]

theorem exp2_int (k : ℤ) : Ideal.exp2 (((k : ℤ) : ℝ) : EReal) = (((2 : ℝ) ^ k : ℝ) : EReal) := by
  show ((Real.rpow 2 (k : ℝ) : ℝ) : EReal) = _
  congr 1
  exact Real.rpow_intCast 2 k

/-- The kernel's and the reference's powers agree, for the maximum `m` and the number `m·c` the exponent is read from. -/
theorem scale_eq {m a : EReal} (hma : m = 0 ↔ a = 0)
    (h : a = 0 ∨ (Ideal.ofBits .f32 0x00800000#32 ≤ a ∧ a < Ideal.ofBits .f32 0x7E800000#32)) :
    kScale a = Ideal.exp2 (rExp m a) ∧ kInv a = Ideal.exp2 (Ideal.ofBits .f32 0x00000000#32 - rExp m a) := by
  rcases h with h | ⟨hlo, hhi⟩
  · have hm := hma.mpr h
    subst h; subst hm
    have hr : rExp 0 0 = 0 := by
      unfold rExp; rw [Ideal.ofBits_zero_f32]; simp [Ideal.cmp, Scalar.select]
    have h1 : Ideal.exp2 0 = 1 := by
      have := exp2_int 0
      simpa using this
    rw [scale_zero.1, scale_zero.2, hr, Ideal.ofBits_zero_f32, sub_zero, h1]
    exact ⟨rfl, rfl⟩
  · have p1 := pow_normal 1 (by omega) (by omega)
    have p2 := pow_normal 253 (by omega) (by omega)
    change Ideal.ofBits .f32 0x00800000#32 = _ at p1
    change Ideal.ofBits .f32 0x7E800000#32 = _ at p2
    rw [p1] at hlo; rw [p2] at hhi
    induction a using EReal.rec with
    | bot => simp at hlo
    | top => simp at hhi
    | coe a =>
      rw [EReal.coe_le_coe_iff] at hlo
      rw [EReal.coe_lt_coe_iff] at hhi
      have ha : 0 < a := lt_of_lt_of_le (by positivity) hlo
      obtain ⟨n, hn⟩ := exists_mem_Ico_zpow ha (by norm_num : (1 : ℝ) < 2)
      have l1 : -126 ≤ n := by
        have := (zpow_lt_zpow_iff_right₀ (by norm_num : (1 : ℝ) < 2)).mp (lt_of_le_of_lt hlo hn.2)
        push_cast at this; omega
      have l2 : n < 126 := by
        have := (zpow_lt_zpow_iff_right₀ (by norm_num : (1 : ℝ) < 2)).mp (lt_of_le_of_lt hn.1 hhi)
        push_cast at this; omega
      have hm : m ≠ 0 := fun hm => ha.ne' (EReal.coe_eq_zero.mp (hma.mp hm))
      obtain ⟨s1, s2⟩ := scale_normal hn ha l1 (by omega)
      rw [s1, s2, rExp_normal hm hn ha, exp2_int, Ideal.ofBits_zero_f32, zero_sub, ← EReal.coe_neg, ← Int.cast_neg, exp2_int]
      exact ⟨rfl, rfl⟩

end Cert.PowTwo

end
-- ==== Proof.KMax.lean ====
/-
  The maximum of the gradient as the kernel computes it: sixteen rows at a time, a running maximum of absolute values
  over the 96 groups of rows, then the maximum of what is left. A number bounds it exactly when it bounds the absolute
  value of every element.
-/
module

public import proofs.«01_k».proof.Proof.KRunA
public import proofs.«01_k».proof.Proof.PowTwo
public import Idealize.ShloMosaic.Lib.Pipeline.Value
public import Idealize.ShloMosaic.Lib.WholeRead

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The absolute value over the extended reals. -/
abbrev eabs (x : EReal) : EReal := max x (-x)

/-- A group of sixteen rows lies in the gradient. -/
theorem rows_inb {k : ℕ} (h : 16 * k + 16 ≤ 1536) (a : Fin 2) :
    (![16 * k, 0] : Fin 2 → ℕ) a + S16x1024.size a ≤ S1536x1024.size a := by
  match a with
  | ⟨0, _⟩ => exact h
  | ⟨1, _⟩ => show 0 + 1024 ≤ 1024; omega

/-- Rows `16k … 16k+15` of a gradient, in absolute value (zero past the last group). -/
def rowsAt (x2 : Vec Ideal S1536x1024 .bf16) (k : ℕ) (j : S16x1024.Idx) : EReal :=
  if h : 16 * k + 16 ≤ 1536 then
    eabs (x2 ((Rect.unit (s := S1536x1024) ![16 * k, 0] S16x1024.size (rows_inb h)).toLoadRect.idx j)) else 0

/-- The running maximum after `n` groups of rows. -/
def upTo (x2 : Vec Ideal S1536x1024 .bf16) : ℕ → S16x1024.Idx → EReal
  | 0, _ => Ideal.ofBits .bf16 0x0000#16
  | n + 1, j => max (upTo x2 n j) (rowsAt x2 n j)

/-- What a number bounds when it bounds the running maximum. -/
theorem upTo_le (x2 : Vec Ideal S1536x1024 .bf16) (B : EReal) (j : S16x1024.Idx) :
    ∀ n, upTo x2 n j ≤ B ↔ 0 ≤ B ∧ ∀ k < n, rowsAt x2 k j ≤ B
  | 0 => by simp [upTo, Ideal.ofBits, Ideal.ieee]
  | n + 1 => by
    simp only [upTo, max_le_iff, upTo_le x2 B j n]
    constructor
    · rintro ⟨⟨h0, h⟩, h'⟩
      refine ⟨h0, fun k hk => ?_⟩
      rcases Nat.lt_succ_iff_lt_or_eq.mp hk with hk | rfl
      · exact h k hk
      · exact h'
    · rintro ⟨h0, h⟩
      exact ⟨⟨h0, fun k hk => h k (by omega)⟩, h n (by omega)⟩

/-- A number bounds all the rows of all the groups when it bounds every element's absolute value. -/
theorem rows_le (x2 : Vec Ideal S1536x1024 .bf16) (B : EReal) :
    (∀ j, ∀ k < 96, rowsAt x2 k j ≤ B) ↔ ∀ i, eabs (x2 i) ≤ B := by
  have hk : ∀ k < 96, 16 * k + 16 ≤ 1536 := by omega
  constructor
  · intro h i
    have h0 : (i 0).val < 1536 := (i 0).isLt
    have h1 : (i 1).val < 1024 := (i 1).isLt
    let j : S16x1024.Idx := fun a => match a with
      | ⟨0, _⟩ => (⟨(i 0).val % 16, Nat.mod_lt _ (by decide)⟩ : Fin 16)
      | ⟨1, _⟩ => (⟨(i 1).val, h1⟩ : Fin 1024)
    have hB := h j ((i 0).val / 16) (by omega)
    unfold rowsAt at hB
    rw [dif_pos (hk _ (by omega))] at hB
    have hi : (Rect.unit (s := S1536x1024) ![16 * ((i 0).val / 16), 0] S16x1024.size (rows_inb (hk ((i 0).val / 16) (by omega)))).toLoadRect.idx j = i := by
      funext a
      apply Fin.ext
      match a with
      | ⟨0, _⟩ => show 16 * ((i 0).val / 16) + 1 * ((i 0).val % 16) = (i 0).val; omega
      | ⟨1, _⟩ => show 0 + 1 * (i 1).val = (i 1).val; omega
    rw [hi] at hB
    exact hB
  · intro h j k hk'
    unfold rowsAt
    rw [dif_pos (hk k hk')]
    exact h _

variable (c : Dev nD) (arg3 : Memref sig .tc .vmem S1536x1024 .bf16) (harg3 : arg3.IsWhole) (x2 : Vec Ideal S1536x1024 .bf16)

/-- A read of a whole buffer that holds `x2`. -/
theorem rd3 (B : LoadRect S1536x1024) :
    View.readAt (Elt Ideal) arg3.view B (harg3.unread x2) = fun j => x2 (B.idx j) :=
  funext fun j => harg3.readAt_unread x2 B j

/-- The running maximum of the first nine groups. -/
theorem r_eq : runA.sl.r c arg3 harg3 x2 = upTo x2 9 := by
  unfold runA.sl.r
  simp only [rd3, k0_pay4, shapeCast_self]
  rfl

/-- Group 9. -/
theorem r_1_eq : absf (runA.sl.r_1 c arg3 harg3 x2) = rowsAt x2 9 := by
  unfold runA.sl.r_1
  simp only [rd3, k0_pay5, shapeCast_self]
  rfl

/-- The running maximum of the first 19 groups. -/
theorem r_2_eq : runA.sl.r_2 c arg3 harg3 x2 = upTo x2 19 := by
  unfold runA.sl.r_2
  simp only [rd3, k0_pay6, shapeCast_self, r_eq, r_1_eq]
  rfl

/-- Group 19. -/
theorem r_3_eq : absf (runA.sl.r_3 c arg3 harg3 x2) = rowsAt x2 19 := by
  unfold runA.sl.r_3
  simp only [rd3, k0_pay7, shapeCast_self]
  rfl

/-- The running maximum of the first 29 groups. -/
theorem r_4_eq : runA.sl.r_4 c arg3 harg3 x2 = upTo x2 29 := by
  unfold runA.sl.r_4
  simp only [rd3, k0_pay8, shapeCast_self, r_2_eq, r_3_eq]
  rfl

/-- Group 29. -/
theorem r_5_eq : absf (runA.sl.r_5 c arg3 harg3 x2) = rowsAt x2 29 := by
  unfold runA.sl.r_5
  simp only [rd3, k0_pay9, shapeCast_self]
  rfl

/-- The running maximum of the first 39 groups. -/
theorem r_6_eq : runA.sl.r_6 c arg3 harg3 x2 = upTo x2 39 := by
  unfold runA.sl.r_6
  simp only [rd3, k0_pay10, shapeCast_self, r_4_eq, r_5_eq]
  rfl

/-- Group 39. -/
theorem r_7_eq : absf (runA.sl.r_7 c arg3 harg3 x2) = rowsAt x2 39 := by
  unfold runA.sl.r_7
  simp only [rd3, k0_pay11, shapeCast_self]
  rfl

/-- The running maximum of the first 49 groups. -/
theorem r_8_eq : runA.sl.r_8 c arg3 harg3 x2 = upTo x2 49 := by
  unfold runA.sl.r_8
  simp only [rd3, k0_pay12, shapeCast_self, r_6_eq, r_7_eq]
  rfl

/-- Group 49. -/
theorem r_9_eq : absf (runA.sl.r_9 c arg3 harg3 x2) = rowsAt x2 49 := by
  unfold runA.sl.r_9
  simp only [rd3, k0_pay13, shapeCast_self]
  rfl

/-- The running maximum of the first 59 groups. -/
theorem r_10_eq : runA.sl.r_10 c arg3 harg3 x2 = upTo x2 59 := by
  unfold runA.sl.r_10
  simp only [rd3, k0_pay14, shapeCast_self, r_8_eq, r_9_eq]
  rfl

/-- Group 59. -/
theorem r_11_eq : absf (runA.sl.r_11 c arg3 harg3 x2) = rowsAt x2 59 := by
  unfold runA.sl.r_11
  simp only [rd3, k0_pay15, shapeCast_self]
  rfl

/-- The running maximum of the first 69 groups. -/
theorem r_12_eq : runA.sl.r_12 c arg3 harg3 x2 = upTo x2 69 := by
  unfold runA.sl.r_12
  simp only [rd3, k0_pay16, shapeCast_self, r_10_eq, r_11_eq]
  rfl

/-- Group 69. -/
theorem r_13_eq : absf (runA.sl.r_13 c arg3 harg3 x2) = rowsAt x2 69 := by
  unfold runA.sl.r_13
  simp only [rd3, k0_pay17, shapeCast_self]
  rfl

/-- The running maximum of the first 79 groups. -/
theorem r_14_eq : runA.sl.r_14 c arg3 harg3 x2 = upTo x2 79 := by
  unfold runA.sl.r_14
  simp only [rd3, k0_pay18, shapeCast_self, r_12_eq, r_13_eq]
  rfl

/-- Group 79. -/
theorem r_15_eq : absf (runA.sl.r_15 c arg3 harg3 x2) = rowsAt x2 79 := by
  unfold runA.sl.r_15
  simp only [rd3, k0_pay19, shapeCast_self]
  rfl

/-- The running maximum of the first 89 groups. -/
theorem r_16_eq : runA.sl.r_16 c arg3 harg3 x2 = upTo x2 89 := by
  unfold runA.sl.r_16
  simp only [rd3, k0_pay20, shapeCast_self, r_14_eq, r_15_eq]
  rfl

/-- Group 89. -/
theorem r_17_eq : absf (runA.sl.r_17 c arg3 harg3 x2) = rowsAt x2 89 := by
  unfold runA.sl.r_17
  simp only [rd3, k0_pay21, shapeCast_self]
  rfl

/-- The pattern of minus infinity. -/
theorem ofBits_bot : Ideal.ofBits .f32 0xFF800000#32 = ⊥ := by
  simp [Ideal.ofBits, Ideal.ieee]

/-- A number bounds a maximum over everything when it bounds every element. -/
theorem reduceAll_le {s t : Shape} {axes : List (Fin s.rank)} [Subsingleton t.Idx] (src : FVec Ideal s .f32)
    (h : s.Reduces axes t) (hφ : FKind.Formats .f32) (hacc : 0xFF800000#32 = FKind.maximumf.neutral .f32 hφ)
    (j : t.Idx) (B : EReal) : multiReduction .maximumf axes t src 0xFF800000#32 h hφ hacc j ≤ B ↔ ∀ i, src i ≤ B := by
  rw [multiReduction_maximumf_eq_fold]
  have e : (Finset.univ.filter fun i => h.drop i = j) = Finset.univ := by
    ext i; simp [Subsingleton.elim (h.drop i) j]
  rw [e]
  refine (Finset.fold_max_le (f := src) (b := Ideal.ofBits .f32 0xFF800000#32) B).trans ?_
  rw [ofBits_bot]
  simp

instance : Subsingleton S1.Idx := ⟨fun a b => funext fun d => by
  match d with
  | ⟨0, _⟩ => exact Subsingleton.elim (α := Fin 1) _ _⟩

/-- The maximum of a register of sixteen rows, broadcast. -/
def maxAll (v : FVec Ideal S16x1024 .bf16) : FVec Ideal S8x128 .f32 :=
  broadcastTo S8x128 (shapeCast S1x1 (broadcast S1x1 (extractAt ![0, 0, 0] (shapeCast S1x1x1
    (multiReduction .maximumf [1, 2] S1 (shapeCast S1x16x1024 (extf .f32 v bitsLt_bf16_f32) shapeCasts_S16x1024_S1x16x1024)
      0xFF800000#32 reduces_S1x16x1024_S1 (.inl rfl) rfl) shapeCasts_S1_S1x1x1) inpos_S1x1x1_p0_0_0)) shapeCasts_S1x1_S1x1)
    broadcasts_S1x1_S8x128

/-- A number bounds it when it bounds every element. -/
theorem maxAll_le (v : FVec Ideal S16x1024 .bf16) (j : S8x128.Idx) (B : EReal) : maxAll v j ≤ B ↔ ∀ i, v i ≤ B := by
  have h := reduceAll_le (s := S1x16x1024) (t := S1) (shapeCast S1x16x1024 (extf .f32 v bitsLt_bf16_f32) shapeCasts_S16x1024_S1x16x1024)
    reduces_S1x16x1024_S1 (.inl rfl) rfl
  unfold maxAll
  generalize multiReduction .maximumf [1, 2] S1 (shapeCast S1x16x1024 (extf .f32 v bitsLt_bf16_f32) shapeCasts_S16x1024_S1x16x1024)
      0xFF800000#32 reduces_S1x16x1024_S1 (.inl rfl) rfl = m at *
  refine (h (Shape.reshapeEquiv shapeCasts_S1_S1x1x1 _) B).trans ?_
  constructor
  · intro h i
    have := h ((Shape.reshapeEquiv shapeCasts_S16x1024_S1x16x1024).symm i)
    refine le_trans (le_of_eq ?_) this
    show v i = v _
    rw [Equiv.apply_symm_apply]
  · intro h i
    exact h _

/-- The register the maximum is broadcast to. -/
theorem r_18_eq : runA.sl.r_18 c arg3 harg3 x2 = maxAll (upTo x2 96) := by
  unfold runA.sl.r_18
  simp only [rd3, k0_pay22, shapeCast_self, r_16_eq, r_17_eq]
  unfold maxAll
  simp only [shapeCast_self]
  rfl

/-- A number bounds the kernel's maximum, at any place of the broadcast register, when it bounds every element's absolute
    value. -/
theorem r_18_le (j : S8x128.Idx) (B : EReal) : runA.sl.r_18 c arg3 harg3 x2 j ≤ B ↔ ∀ i, eabs (x2 i) ≤ B := by
  rw [r_18_eq, maxAll_le, ← rows_le]
  have e : ∀ j, upTo x2 96 j ≤ B ↔ ∀ k < 96, rowsAt x2 k j ≤ B := by
    intro j
    rw [upTo_le]
    refine ⟨fun h => h.2, fun h => ⟨le_trans ?_ (h 0 (by decide)), h⟩⟩
    unfold rowsAt
    split
    · simp only [eabs, le_max_iff]
      rcases le_total 0 (x2 _) with h | h
      · exact Or.inl h
      · exact Or.inr (by rw [EReal.neg_nonneg]; exact h)
    · exact le_refl _
  exact forall_congr' e

end Cert.KernelIdeal.Hand

end
-- ==== Proof.KRunB.lean ====
/-
  The kernel body at a grid point after the first: it reads the codes, their transpose and the scale that the first
  point left, and does the two products of its column block.
-/
module

public import proofs.«01_k».proof.Proof.KRunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, at a later point, in the two products' staging memrefs, as lists of pieces, with the
    proof that the body runs to a continuation that holds the inputs, the codes, their transpose and the scale as they
    were. -/
noncomputable def runB (c : Dev nD) (i : grid0.Coords) (arg1 : Memref sig .tc .smem S1 .f32) (harg1 : arg1.IsWhole) (arg2 : Memref sig .tc .smem S1 .f32) (harg2 : arg2.IsWhole) (arg3 : Memref sig .tc .vmem S1536x1024 .bf16) (harg3 : arg3.IsWhole) (arg4 : Memref sig .tc .vmem S1536x512 .fp8e4m3) (harg4 : arg4.IsWhole) (arg5 : Memref sig .tc .vmem S1024x512 .fp8e4m3) (harg5 : arg5.IsWhole) (arg6 : Memref sig .tc .vmem S1024x512 .f32) (harg6 : arg6.IsWhole) (arg7 : Memref sig .tc .vmem S1536x512 .bf16) (harg7 : arg7.IsWhole) (arg8 : Memref sig .tc .vmem S1024x512 .f32) (harg8 : arg8.IsWhole) (arg9 : Memref sig .tc .vmem S1536x1024 .fp8e5m2) (harg9 : arg9.IsWhole) (arg10 : Memref sig .tc .smem S1 .f32) (harg10 : arg10.IsWhole) (arg11 : Memref sig .tc .smem S1 .f32) (harg11 : arg11.IsWhole) (arg12 : Memref sig .tc .vmem S1024x1536 .fp8e5m2) (harg12 : arg12.IsWhole) (arg13 : Memref sig .tc .smem S1 .f32) (harg13 : arg13.IsWhole) (hc0 : ¬cond0_0 i)
    (x0 : Vec F S1 .f32) (x1 : Vec F S1 .f32) (x2 : Vec F S1536x1024 .bf16) (x3 : Vec F S1536x512 .fp8e4m3) (x4 : Vec F S1024x512 .fp8e4m3) (x5 : Vec F S1024x512 .f32) (y9 : Vec F S1536x1024 .fp8e5m2) (y12 : Vec F S1024x1536 .fp8e5m2) (y13 : Vec F S1 .f32) :
    Σ' (L7 : List (View.Piece (Elt F) S1536x512 .bf16)), { L8 : List (View.Piece (Elt F) S1024x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare y9 ∗ owns (c : Thread nD τ) arg12 fullShare y12 ∗ owns (c : Thread nD τ) arg13 fullShare y13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ owns (c : Thread nD τ) arg9 fullShare y9 ∗ owns (c : Thread nD τ) arg12 fullShare y12 ∗ owns (c : Thread nD τ) arg13 fullShare y13) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %g7, -, G7⟩, ⟨%d8, %g8, -, G8⟩, ⟨%fy9, %hfy9, Y9⟩, ⟨%fy12, %hfy12, Y12⟩, ⟨%fy13, %hfy13, Y13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfy9; obtain rfl := harg12.eq_unread hfy12; obtain rfl := harg13.eq_unread hfy13
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [G7]
    · iexists _; iexact G7
    isplitl [G8]
    · iexists _; iexact G8
    isplitl [Y9]
    · iexists _; isplitr; · ipureintro; exact harg9.read_unread _
      iexact Y9
    isplitl [Y12]
    · iexists _; isplitr; · ipureintro; exact harg12.read_unread _
      iexact Y12
    iexists _; isplitr; · ipureintro; exact harg13.read_unread _
    iexact Y13

end Cert.KernelIdeal.Hand

end
-- ==== Proof.KVals.lean ====
/-
  What the kernel body leaves in each output's block and in each scratch buffer, as functions of its inputs' blocks, over
  the extended reals.
-/
module

public import proofs.«01_k».proof.Proof.KMax
public import proofs.«01_k».proof.Proof.KRunB
public import Idealize.ShloMosaic.Lib.VecWindow

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The values -/

/-- The gradient's maximum absolute value. -/
def amaxOf (x2 : Vec Ideal S1536x1024 .bf16) : EReal := ⨆ i, eabs (x2 i)

/-- The number that the exponent is read from. -/
def ratioOf (x2 : Vec Ideal S1536x1024 .bf16) : EReal := amaxOf x2 * Ideal.ofBits .f32 0x37924925#32

/-- The scale. -/
def scaleOf (x2 : Vec Ideal S1536x1024 .bf16) : EReal := PowTwo.kScale (ratioOf x2)

/-- The clip to the range of the codes. -/
def clip (x : EReal) : EReal := min (Ideal.ofBits .f32 0x47600000#32) (max (Ideal.ofBits .f32 0xC7600000#32) x)

/-- The gradient's codes. -/
def codesOf (x2 : Vec Ideal S1536x1024 .bf16) : Vec Ideal S1536x1024 .fp8e5m2 :=
  fun y => clip (x2 y * PowTwo.kInv (ratioOf x2))

/-- The transposed place. -/
def swap (y : S1024x1536.Idx) : S1536x1024.Idx := fun a => match a with
  | ⟨0, _⟩ => (⟨(y 1).val, (y 1).isLt⟩ : Fin 1536)
  | ⟨1, _⟩ => (⟨(y 0).val, (y 0).isLt⟩ : Fin 1024)

/-- The codes transposed. -/
def codesTOf (x2 : Vec Ideal S1536x1024 .bf16) : Vec Ideal S1024x1536 .fp8e5m2 := fun y => codesOf x2 (swap y)

/-- The one place of a one-element array. -/
def one : S1.Idx := Shape.Idx.first (by decide)

/-- One block of the product with the weights. -/
def dxOf (x1 : Vec Ideal S1 .f32) (x2 : Vec Ideal S1536x1024 .bf16) (x4 : Vec Ideal S1024x512 .fp8e4m3) : Vec Ideal S1536x512 .bf16 :=
  k0_pay2 (F := Ideal) (scaleOf x2) (codesOf x2) x4 (x1 one)

/-- One block of the accumulated weight gradient. -/
def mgoOf (x0 : Vec Ideal S1 .f32) (x2 : Vec Ideal S1536x1024 .bf16) (x3 : Vec Ideal S1536x512 .fp8e4m3) (x5 : Vec Ideal S1024x512 .f32) :
    Vec Ideal S1024x512 .f32 :=
  k0_pay3 (F := Ideal) (scaleOf x2) (codesTOf x2) x3 x5 (x0 one)

/-! ## The scale that the first point computes -/

section Scale

variable (c : Dev nD) (arg3 : Memref sig .tc .vmem S1536x1024 .bf16) (harg3 : arg3.IsWhole) (x2 : Vec Ideal S1536x1024 .bf16)

/-- The register of the maximum. -/
theorem r_18_val : runA.sl.r_18 c arg3 harg3 x2 = fun _ => amaxOf x2 := by
  funext j
  refine eq_of_forall_ge_iff fun B => ?_
  rw [r_18_le, amaxOf, iSup_le_iff]

/-- The register of the number that the exponent is read from. -/
theorem r_19_val : runA.sl.r_19 c arg3 harg3 x2 = fun _ => ratioOf x2 := by
  show mulf (runA.sl.r_18 c arg3 harg3 x2) _ = _
  rw [r_18_val]; rfl

/-- The register of the search's first comparison. -/
theorem r_20_val : runA.sl.r_20 c arg3 harg3 x2 = fun _ => Ideal.cmp .olt (ratioOf x2) (PowTwo.pow (0#32 + 128#32)) := by
  show cmpf .olt (runA.sl.r_19 c arg3 harg3 x2) _ = _
  rw [r_19_val]
  funext j
  show Ideal.cmp .olt (ratioOf x2) (Ideal.ofBits .f32 (IntOp.shli .vector (k0_pay24 j + 128#32) 23#32)) = _
  rfl

/-- The register of the search's first five steps. -/
theorem r_21_val : runA.sl.r_21 c arg3 harg3 x2 = fun _ => PowTwo.field5 (ratioOf x2) := by
  unfold runA.sl.r_21
  rw [r_19_val, r_20_val]; rfl

/-- The register of the search's sixth comparison. -/
theorem r_22_val : runA.sl.r_22 c arg3 harg3 x2 = fun _ => Ideal.cmp .olt (ratioOf x2) (PowTwo.pow (PowTwo.field5 (ratioOf x2) + 4#32)) := by
  unfold runA.sl.r_22
  rw [r_19_val, r_20_val]; rfl

/-- The register of the scale. -/
theorem r_23_val : runA.sl.r_23 c arg3 harg3 x2 = fun _ => scaleOf x2 := by
  unfold runA.sl.r_23
  rw [r_19_val, r_21_val, r_22_val]; rfl

/-- The register of the scale's reciprocal. -/
theorem r_24_val : runA.sl.r_24 c arg3 harg3 x2 = fun _ => PowTwo.kInv (ratioOf x2) := by
  unfold runA.sl.r_24
  rw [r_19_val, r_21_val, r_22_val]; rfl

/-- The scale that the products use. -/
theorem r_31_val : runA.sl.r_31 c arg3 harg3 x2 = scaleOf x2 := by
  unfold runA.sl.r_31
  rw [r_23_val]; rfl

end Scale

/-! ## The codes -/

/-- The codes of 256 rows. -/
theorem pay36_apply (iv : EReal) (v : Vec Ideal S256x1024 .bf16) : k0_pay36 (F := Ideal) (fun _ => iv) v = fun j => clip (v j * iv) := by
  simp only [k0_pay36, k0_pay35, shapeCast_self]; rfl

/-- The codes of 256 rows. -/
theorem pay39_apply (iv : EReal) (v : Vec Ideal S256x1024 .bf16) : k0_pay39 (F := Ideal) (fun _ => iv) v = fun j => clip (v j * iv) := by
  simp only [k0_pay39, k0_pay38, shapeCast_self]; rfl

/-- The codes of 256 rows. -/
theorem pay43_apply (iv : EReal) (v : Vec Ideal S256x1024 .bf16) : k0_pay43 (F := Ideal) (fun _ => iv) v = fun j => clip (v j * iv) := by
  simp only [k0_pay43, k0_pay42, shapeCast_self]; rfl

/-- The codes of 256 rows. -/
theorem pay46_apply (iv : EReal) (v : Vec Ideal S256x1024 .bf16) : k0_pay46 (F := Ideal) (fun _ => iv) v = fun j => clip (v j * iv) := by
  simp only [k0_pay46, k0_pay45, shapeCast_self]; rfl

/-- The codes of 256 rows. -/
theorem pay49_apply (iv : EReal) (v : Vec Ideal S256x1024 .bf16) : k0_pay49 (F := Ideal) (fun _ => iv) v = fun j => clip (v j * iv) := by
  simp only [k0_pay49, k0_pay48, shapeCast_self]; rfl

/-- The codes of 256 rows. -/
theorem pay52_apply (iv : EReal) (v : Vec Ideal S256x1024 .bf16) : k0_pay52 (F := Ideal) (fun _ => iv) v = fun j => clip (v j * iv) := by
  simp only [k0_pay52, k0_pay51, shapeCast_self]; rfl

/-- The transposed place within 256 rows. -/
def swapC (y : S1024x256.Idx) : S256x1024.Idx := fun a => match a with
  | ⟨0, _⟩ => (⟨(y 1).val, (y 1).isLt⟩ : Fin 256)
  | ⟨1, _⟩ => (⟨(y 0).val, (y 0).isLt⟩ : Fin 1024)

/-- A transpose of 256 rows. -/
theorem transpose_swapC (v : S256x1024.Idx → EReal) :
    transpose S1024x256 [1, 0] v transposes_S256x1024_p1_0_S1024x256 = fun j => v (swapC j) := by
  funext j
  exact transpose_apply _ v _ _ _ fun b => match b with | ⟨0, _⟩ => rfl | ⟨1, _⟩ => rfl

/-- The transposed codes of 256 rows. -/
theorem pay37_apply (iv : EReal) (v : Vec Ideal S256x1024 .bf16) :
    k0_pay37 (F := Ideal) (fun _ => iv) v = fun j => clip (v (swapC j) * iv) := by
  have h := transpose_swapC (k0_pay35 (F := Ideal) (fun _ => iv) v)
  simp only [k0_pay37, shapeCast_self, h]
  simp only [k0_pay35, shapeCast_self]; rfl

/-- The transposed codes of 256 rows. -/
theorem pay40_apply (iv : EReal) (v : Vec Ideal S256x1024 .bf16) :
    k0_pay40 (F := Ideal) (fun _ => iv) v = fun j => clip (v (swapC j) * iv) := by
  have h := transpose_swapC (k0_pay38 (F := Ideal) (fun _ => iv) v)
  simp only [k0_pay40, shapeCast_self, h]
  simp only [k0_pay38, shapeCast_self]; rfl

/-- The transposed codes of 256 rows. -/
theorem pay44_apply (iv : EReal) (v : Vec Ideal S256x1024 .bf16) :
    k0_pay44 (F := Ideal) (fun _ => iv) v = fun j => clip (v (swapC j) * iv) := by
  have h := transpose_swapC (k0_pay42 (F := Ideal) (fun _ => iv) v)
  simp only [k0_pay44, shapeCast_self, h]
  simp only [k0_pay42, shapeCast_self]; rfl

/-- The transposed codes of 256 rows. -/
theorem pay47_apply (iv : EReal) (v : Vec Ideal S256x1024 .bf16) :
    k0_pay47 (F := Ideal) (fun _ => iv) v = fun j => clip (v (swapC j) * iv) := by
  have h := transpose_swapC (k0_pay45 (F := Ideal) (fun _ => iv) v)
  simp only [k0_pay47, shapeCast_self, h]
  simp only [k0_pay45, shapeCast_self]; rfl

/-- The transposed codes of 256 rows. -/
theorem pay50_apply (iv : EReal) (v : Vec Ideal S256x1024 .bf16) :
    k0_pay50 (F := Ideal) (fun _ => iv) v = fun j => clip (v (swapC j) * iv) := by
  have h := transpose_swapC (k0_pay48 (F := Ideal) (fun _ => iv) v)
  simp only [k0_pay50, shapeCast_self, h]
  simp only [k0_pay48, shapeCast_self]; rfl

/-- The transposed codes of 256 rows. -/
theorem pay53_apply (iv : EReal) (v : Vec Ideal S256x1024 .bf16) :
    k0_pay53 (F := Ideal) (fun _ => iv) v = fun j => clip (v (swapC j) * iv) := by
  have h := transpose_swapC (k0_pay51 (F := Ideal) (fun _ => iv) v)
  simp only [k0_pay53, shapeCast_self, h]
  simp only [k0_pay51, shapeCast_self]; rfl

section Codes

variable (c : Dev nD) (arg3 : Memref sig .tc .vmem S1536x1024 .bf16) (harg3 : arg3.IsWhole) (x2 : Vec Ideal S1536x1024 .bf16)

/-- Every piece that the first point stores in the codes' block is the codes there. -/
theorem G9_pieces : ∀ p ∈ runA.sl.G9_6 (F := Ideal) c arg3 harg3 x2, ∀ x : p.1.shape.Idx, p.2 x = codesOf x2 (p.1.emb x) := by
  unfold runA.sl.G9_6
  simp only [r_24_val, rd3]
  simp only [List.forall_mem_cons]
  refine ⟨?_, ?_, ?_, ?_, ?_, ?_, fun _ h => absurd h List.not_mem_nil⟩
  · intro x; show k0_pay52 _ _ _ = _; rw [pay52_apply]; rfl
  · intro x; show k0_pay49 _ _ _ = _; rw [pay49_apply]; rfl
  · intro x; show k0_pay46 _ _ _ = _; rw [pay46_apply]; rfl
  · intro x; show k0_pay43 _ _ _ = _; rw [pay43_apply]; rfl
  · intro x; show k0_pay39 _ _ _ = _; rw [pay39_apply]; rfl
  · intro x; show k0_pay36 _ _ _ = _; rw [pay36_apply]; rfl

/-- The pieces cover the block. -/
theorem G9_cover : ∀ y, ∃ p ∈ runA.sl.G9_6 (F := Ideal) c arg3 harg3 x2, y ∈ p.1.set :=
  View.cover_of_tiled _ ![256, 1024] rfl

/-- Two places of the gradient are one when their coordinates are. -/
theorem codes_congr {a b : S1536x1024.Idx} (h0 : (a 0).val = (b 0).val) (h1 : (a 1).val = (b 1).val) :
    clip (x2 a * PowTwo.kInv (ratioOf x2)) = codesOf x2 b := by
  have : a = b := funext fun d => Fin.ext (match d with | ⟨0, _⟩ => h0 | ⟨1, _⟩ => h1)
  rw [this]; rfl

/-- Every piece that the first point stores in the transposed codes is the transposed codes there. -/
theorem G12_pieces : ∀ p ∈ runA.sl.G12_6 (F := Ideal) c arg3 harg3 x2, ∀ x : p.1.shape.Idx, p.2 x = codesTOf x2 (p.1.emb x) := by
  unfold runA.sl.G12_6 runA.sl.r_29 runA.sl.r_30
  simp only [r_24_val, rd3, k0_pay1, k0_pay41, shapeCast_self]
  simp only [List.forall_mem_cons]
  refine ⟨?_, ?_, ?_, ?_, ?_, ?_, fun _ h => absurd h List.not_mem_nil⟩
  · intro x; show k0_pay53 _ _ _ = _; rw [pay53_apply]; exact codes_congr x2 rfl rfl
  · intro x; show k0_pay50 _ _ _ = _; rw [pay50_apply]; exact codes_congr x2 rfl rfl
  · intro x; show k0_pay47 _ _ _ = _; rw [pay47_apply]; exact codes_congr x2 rfl rfl
  · intro x; show k0_pay44 _ _ _ = _; rw [pay44_apply]; exact codes_congr x2 rfl rfl
  · intro x; show k0_pay40 _ _ _ = _; rw [pay40_apply]; exact codes_congr x2 rfl rfl
  · intro x; show k0_pay37 _ _ _ = _; rw [pay37_apply]; exact codes_congr x2 rfl rfl

/-- The pieces cover the buffer. -/
theorem G12_cover : ∀ y, ∃ p ∈ runA.sl.G12_6 (F := Ideal) c arg3 harg3 x2, y ∈ p.1.set :=
  View.cover_of_tiled _ ![1024, 256] rfl

/-- The codes read back by the first point. -/
theorem v4_val (arg9 : Memref sig .tc .vmem S1536x1024 .fp8e5m2) : runA.sl.v4 c arg3 harg3 arg9 x2 = codesOf x2 := by
  unfold runA.sl.v4
  rw [View.readCov_eq_canon_ld _ _ _ (G9_cover c arg3 harg3 x2)]
  funext y
  refine (View.canon_apply_of_pieces (codesOf x2) _ (G9_pieces c arg3 harg3 x2) _ (G9_cover c arg3 harg3 x2 _)).trans ?_
  exact congrArg (codesOf x2) (Rect.emb_unit_full _ _)

/-- The transposed codes read back by the first point. -/
theorem v14_val (arg12 : Memref sig .tc .vmem S1024x1536 .fp8e5m2) : runA.sl.v14 c arg3 harg3 arg12 x2 = codesTOf x2 := by
  unfold runA.sl.v14
  rw [View.readCov_eq_canon_ld _ _ _ (G12_cover c arg3 harg3 x2)]
  funext y
  refine (View.canon_apply_of_pieces (codesTOf x2) _ (G12_pieces c arg3 harg3 x2) _ (G12_cover c arg3 harg3 x2 _)).trans ?_
  exact congrArg (codesTOf x2) (Rect.emb_unit_full _ _)

end Codes

/-- A read of all of a whole buffer. -/
theorem rd_full {κ : Kind} {sp : Space} {s : Shape} {e : EltTy} {m : Memref sig κ sp s e} (h : m.IsWhole) (X : Vec Ideal s e)
    {off : Fin s.rank → ℕ} (inb : ∀ a, off a + s.size a ≤ s.size a) :
    View.readAt (Elt Ideal) m.view (Rect.unit off s.size inb).toLoadRect (h.unread X) = X :=
  funext fun j => (h.readAt_unread X _ j).trans (congrArg X (Rect.emb_unit_full inb j))

/-- What one store of a whole block leaves. -/
theorem read_one {κ : Kind} {sp : Space} {s : Shape} {e : EltTy} (v : View sig κ sp s e) (f : v.ty.Contents (Elt Ideal))
    {off : Fin s.rank → ℕ} (inb : ∀ a, off a + s.size a ≤ s.size a) (w : Vec Ideal s e) :
    v.read (Elt Ideal) (v.writes (Elt Ideal) f [⟨Rect.unit off s.size inb, w⟩]) = w :=
  View.read_writes_full v f inb w []

end Cert.KernelIdeal.Hand

end
-- ==== Proof.KLeft.lean ====
/-
  What a run of the kernel body leaves in each staging memref and each scratch buffer, read back, over the extended reals.
-/
module

public import proofs.«01_k».proof.Proof.KVals

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The first point -/

section First

variable (c : Dev nD) (i : grid0.Coords) (arg1 : Memref sig .tc .smem S1 .f32) (harg1 : arg1.IsWhole) (arg2 : Memref sig .tc .smem S1 .f32) (harg2 : arg2.IsWhole) (arg3 : Memref sig .tc .vmem S1536x1024 .bf16) (harg3 : arg3.IsWhole) (arg4 : Memref sig .tc .vmem S1536x512 .fp8e4m3) (harg4 : arg4.IsWhole) (arg5 : Memref sig .tc .vmem S1024x512 .fp8e4m3) (harg5 : arg5.IsWhole) (arg6 : Memref sig .tc .vmem S1024x512 .f32) (harg6 : arg6.IsWhole) (arg7 : Memref sig .tc .vmem S1536x512 .bf16) (harg7 : arg7.IsWhole) (arg8 : Memref sig .tc .vmem S1024x512 .f32) (harg8 : arg8.IsWhole) (arg9 : Memref sig .tc .vmem S1536x1024 .fp8e5m2) (harg9 : arg9.IsWhole) (arg10 : Memref sig .tc .smem S1 .f32) (harg10 : arg10.IsWhole) (arg11 : Memref sig .tc .smem S1 .f32) (harg11 : arg11.IsWhole) (arg12 : Memref sig .tc .vmem S1024x1536 .fp8e5m2) (harg12 : arg12.IsWhole) (arg13 : Memref sig .tc .smem S1 .f32) (harg13 : arg13.IsWhole) (hc0 : cond0_0 i)
    (x0 : Vec Ideal S1 .f32) (x1 : Vec Ideal S1 .f32) (x2 : Vec Ideal S1536x1024 .bf16) (x3 : Vec Ideal S1536x512 .fp8e4m3) (x4 : Vec Ideal S1024x512 .fp8e4m3) (x5 : Vec Ideal S1024x512 .f32)

/-- The first product's block. -/
theorem runA_dx (f : arg7.view.ty.Contents (Elt Ideal)) :
    arg7.view.read (Elt Ideal) (arg7.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).1) = dxOf x1 x2 x4 := by
  refine (read_one arg7.view f inb_S1536x512_S1536x512_0_0 _).trans ?_
  exact congr (congr (congr (congrArg (k0_pay2 (F := Ideal)) (r_31_val c arg3 harg3 x2)) (v4_val c arg3 harg3 x2 arg9)) (rd_full harg5 x4 _)) (congrFun (rd_full harg2 x1 _) one)

/-- The second product's block. -/
theorem runA_mgo (f : arg8.view.ty.Contents (Elt Ideal)) :
    arg8.view.read (Elt Ideal) (arg8.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.1) = mgoOf x0 x2 x3 x5 := by
  refine (read_one arg8.view f inb_S1024x512_S1024x512_0_0 _).trans ?_
  exact congr (congr (congr (congr (congrArg (k0_pay3 (F := Ideal)) (r_31_val c arg3 harg3 x2)) (v14_val c arg3 harg3 x2 arg12)) (rd_full harg4 x3 _)) (rd_full harg6 x5 _)) (congrFun (rd_full harg1 x0 _) one)

/-- The codes. -/
theorem runA_codes (f : arg9.view.ty.Contents (Elt Ideal)) :
    arg9.view.read (Elt Ideal) (arg9.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.1) = codesOf x2 := by
  funext y
  exact View.read_writes_apply_of_pieces _ f (codesOf x2) _ (G9_pieces c arg3 harg3 x2) y (G9_cover c arg3 harg3 x2 y)

/-- The maximum. -/
theorem runA_amax (f : arg10.view.ty.Contents (Elt Ideal)) :
    arg10.view.read (Elt Ideal) (arg10.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.2.1) = fun _ => amaxOf x2 := by
  refine (read_one arg10.view f inb_S1_S1_0 _).trans ?_
  show (fun _ => k0_pay32 (F := Ideal) (k0_pay31 (runA.sl.r_18 c arg3 harg3 x2))) = _
  rw [r_18_val]; rfl

/-- The scale. -/
theorem runA_scale (f : arg11.view.ty.Contents (Elt Ideal)) :
    arg11.view.read (Elt Ideal) (arg11.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.2.2.1) = fun _ => scaleOf x2 := by
  refine (read_one arg11.view f inb_S1_S1_0 _).trans ?_
  show (fun _ => k0_pay33 (F := Ideal) (runA.sl.r_23 c arg3 harg3 x2)) = _
  rw [r_23_val]; rfl

/-- The transposed codes. -/
theorem runA_codesT (f : arg12.view.ty.Contents (Elt Ideal)) :
    arg12.view.read (Elt Ideal) (arg12.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.2.2.2.1) = codesTOf x2 := by
  funext y
  exact View.read_writes_apply_of_pieces _ f (codesTOf x2) _ (G12_pieces c arg3 harg3 x2) y (G12_cover c arg3 harg3 x2 y)

/-- The scale that later points read. -/
theorem runA_keep (f : arg13.view.ty.Contents (Elt Ideal)) :
    arg13.view.read (Elt Ideal) (arg13.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5).2.2.2.2.2.2.1) = fun _ => scaleOf x2 := by
  refine (read_one arg13.view f inb_S1_S1_0 _).trans ?_
  show (fun _ => k0_pay34 (F := Ideal) (runA.sl.r_23 c arg3 harg3 x2)) = _
  rw [r_23_val]; rfl

end First

/-! ## A later point -/

section Later

variable (c : Dev nD) (i : grid0.Coords) (arg1 : Memref sig .tc .smem S1 .f32) (harg1 : arg1.IsWhole) (arg2 : Memref sig .tc .smem S1 .f32) (harg2 : arg2.IsWhole) (arg3 : Memref sig .tc .vmem S1536x1024 .bf16) (harg3 : arg3.IsWhole) (arg4 : Memref sig .tc .vmem S1536x512 .fp8e4m3) (harg4 : arg4.IsWhole) (arg5 : Memref sig .tc .vmem S1024x512 .fp8e4m3) (harg5 : arg5.IsWhole) (arg6 : Memref sig .tc .vmem S1024x512 .f32) (harg6 : arg6.IsWhole) (arg7 : Memref sig .tc .vmem S1536x512 .bf16) (harg7 : arg7.IsWhole) (arg8 : Memref sig .tc .vmem S1024x512 .f32) (harg8 : arg8.IsWhole) (arg9 : Memref sig .tc .vmem S1536x1024 .fp8e5m2) (harg9 : arg9.IsWhole) (arg10 : Memref sig .tc .smem S1 .f32) (harg10 : arg10.IsWhole) (arg11 : Memref sig .tc .smem S1 .f32) (harg11 : arg11.IsWhole) (arg12 : Memref sig .tc .vmem S1024x1536 .fp8e5m2) (harg12 : arg12.IsWhole) (arg13 : Memref sig .tc .smem S1 .f32) (harg13 : arg13.IsWhole) (hc0 : ¬cond0_0 i)
    (x0 : Vec Ideal S1 .f32) (x1 : Vec Ideal S1 .f32) (x2 : Vec Ideal S1536x1024 .bf16) (x3 : Vec Ideal S1536x512 .fp8e4m3) (x4 : Vec Ideal S1024x512 .fp8e4m3) (x5 : Vec Ideal S1024x512 .f32)

/-- The first product's block. -/
theorem runB_dx (f : arg7.view.ty.Contents (Elt Ideal)) :
    arg7.view.read (Elt Ideal) (arg7.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 (codesOf x2) (codesTOf x2) (fun _ => scaleOf x2)).1) = dxOf x1 x2 x4 := by
  refine (read_one arg7.view f inb_S1536x512_S1536x512_0_0 _).trans ?_
  exact congr (congr (congr (congrArg (k0_pay2 (F := Ideal)) (congrFun (rd_full harg13 (fun _ => scaleOf x2) _) one)) (rd_full harg9 (codesOf x2) _)) (rd_full harg5 x4 _)) (congrFun (rd_full harg2 x1 _) one)

/-- The second product's block. -/
theorem runB_mgo (f : arg8.view.ty.Contents (Elt Ideal)) :
    arg8.view.read (Elt Ideal) (arg8.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 (codesOf x2) (codesTOf x2) (fun _ => scaleOf x2)).2.1) = mgoOf x0 x2 x3 x5 := by
  refine (read_one arg8.view f inb_S1024x512_S1024x512_0_0 _).trans ?_
  exact congr (congr (congr (congr (congrArg (k0_pay3 (F := Ideal)) (congrFun (rd_full harg13 (fun _ => scaleOf x2) _) one)) (rd_full harg12 (codesTOf x2) _)) (rd_full harg4 x3 _)) (rd_full harg6 x5 _)) (congrFun (rd_full harg1 x0 _) one)

end Later

end Cert.KernelIdeal.Hand

end
-- ==== Proof.KData.lean ====
/-
  The pipeline's proof data: what every window's buffer and every scratch buffer holds after each grid point, and the
  proof that the kernel body keeps it.
-/
module

public import proofs.«01_k».proof.Proof.KLeft
public import proofs.«01_k».proof.Proof.Gen.KernelIdeal.Frame
public import Idealize.ShloMosaic.Lib.Pipeline.ValueKit.Point
public import Idealize.ShloMosaic.Lib.Pipeline.TableIdle

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The blocks that every point reads -/

/-- The gradient, as the region finds it. -/
def grad (c : Dev nD) : Vec Ideal S1536x1024 .bf16 := V m c (Pipeline.arrRef spec0 2)

/-- The gradient's window stays at the array's only block. -/
theorem idx2 : ∀ t : Fin cfg0.N, win0_2.index t = ![0, 0] := (by decide +kernel : ∀ t : Fin grid0.N, win0_2.index t = ![0, 0])

/-- Every point's block of the gradient is the gradient. -/
theorem iblk2_eq (c : Dev nD) (t : Fin cfg0.N) : iblk m c 2 t = grad m c := by
  unfold grad
  blk_ext! [iblk, idx2 t]

/-! ## The proof data -/

/-- What is in the scratch buffers: before the first point anything, later the transposed codes and the scale. -/
def inv (c : Dev nD) (n : ℕ) : sProp 𝕄 :=
  if n = 0 then Pipeline.ΦA spec0 c else
    iprop(iprop(owns (c : Thread nD τ) scM0_0 fullShare (codesTOf (grad m c)) ∗ owns (c : Thread nD τ) scM0_1 fullShare (fun _ => scaleOf (grad m c)))
      ∗ (∃ r, prngReg c r))

/-- The proof data of the pipeline on one core. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dxOf (iblk m c 1 t) (grad m c) (iblk m c 4 t)
    | ⟨7, _⟩ => mgoOf (iblk m c 0 t) (grad m c) (iblk m c 3 t) (iblk m c 5 t)
    | ⟨8, _⟩ => codesOf (grad m c)
    | ⟨9, _⟩ => fun _ => amaxOf (grad m c)
    | ⟨10, _⟩ => fun _ => scaleOf (grad m c)
  Φ t := inv m c t.val
  q _ := fullShare
  owed _ := 0

/-- The arrays are as the region finds them. -/
theorem A_eq (c : Dev nD) (w : Fin cfg0.W) : (dats m 0 c).A w = V m c (Pipeline.arrRef spec0 w) := by
  dsimp only [dats]

/-- What the body leaves in window 0's buffer. -/
theorem after0_0 (c : Dev nD) (t : Fin cfg0.N) : (dats m 0 c).after 0 t = iblk m c 0 t := by dsimp only [dats]
/-- What the body leaves in window 1's buffer. -/
theorem after0_1 (c : Dev nD) (t : Fin cfg0.N) : (dats m 0 c).after 1 t = iblk m c 1 t := by dsimp only [dats]
/-- What the body leaves in window 2's buffer. -/
theorem after0_2 (c : Dev nD) (t : Fin cfg0.N) : (dats m 0 c).after 2 t = iblk m c 2 t := by dsimp only [dats]
/-- What the body leaves in window 3's buffer. -/
theorem after0_3 (c : Dev nD) (t : Fin cfg0.N) : (dats m 0 c).after 3 t = iblk m c 3 t := by dsimp only [dats]
/-- What the body leaves in window 4's buffer. -/
theorem after0_4 (c : Dev nD) (t : Fin cfg0.N) : (dats m 0 c).after 4 t = iblk m c 4 t := by dsimp only [dats]
/-- What the body leaves in window 5's buffer. -/
theorem after0_5 (c : Dev nD) (t : Fin cfg0.N) : (dats m 0 c).after 5 t = iblk m c 5 t := by dsimp only [dats]
/-- What the body leaves in window 6's buffer. -/
theorem after0_6 (c : Dev nD) (t : Fin cfg0.N) : (dats m 0 c).after 6 t = dxOf (iblk m c 1 t) (grad m c) (iblk m c 4 t) := by dsimp only [dats]
/-- What the body leaves in window 7's buffer. -/
theorem after0_7 (c : Dev nD) (t : Fin cfg0.N) : (dats m 0 c).after 7 t = mgoOf (iblk m c 0 t) (grad m c) (iblk m c 3 t) (iblk m c 5 t) := by dsimp only [dats]
/-- What the body leaves in window 8's buffer. -/
theorem after0_8 (c : Dev nD) (t : Fin cfg0.N) : (dats m 0 c).after 8 t = codesOf (grad m c) := by dsimp only [dats]
/-- What the body leaves in window 9's buffer. -/
theorem after0_9 (c : Dev nD) (t : Fin cfg0.N) : (dats m 0 c).after 9 t = fun _ => amaxOf (grad m c) := by dsimp only [dats]
/-- What the body leaves in window 10's buffer. -/
theorem after0_10 (c : Dev nD) (t : Fin cfg0.N) : (dats m 0 c).after 10 t = fun _ => scaleOf (grad m c) := by dsimp only [dats]
/-- What the body finds in window 0's buffer. -/
theorem before0_0 (c : Dev nD) (t : Fin cfg0.N) (d) : (dats m 0 c).before 0 t d = iblk m c 0 t :=
  before0_0_of m (dats m 0 c) (A_eq m c 0) (after0_0 m c) t d
/-- What the body finds in window 1's buffer. -/
theorem before0_1 (c : Dev nD) (t : Fin cfg0.N) (d) : (dats m 0 c).before 1 t d = iblk m c 1 t :=
  before0_1_of m (dats m 0 c) (A_eq m c 1) (after0_1 m c) t d
/-- What the body finds in window 2's buffer. -/
theorem before0_2 (c : Dev nD) (t : Fin cfg0.N) (d) : (dats m 0 c).before 2 t d = iblk m c 2 t :=
  before0_2_of m (dats m 0 c) (A_eq m c 2) (after0_2 m c) t d
/-- What the body finds in window 3's buffer. -/
theorem before0_3 (c : Dev nD) (t : Fin cfg0.N) (d) : (dats m 0 c).before 3 t d = iblk m c 3 t :=
  before0_3_of m (dats m 0 c) (A_eq m c 3) (after0_3 m c) t d
/-- What the body finds in window 4's buffer. -/
theorem before0_4 (c : Dev nD) (t : Fin cfg0.N) (d) : (dats m 0 c).before 4 t d = iblk m c 4 t :=
  before0_4_of m (dats m 0 c) (A_eq m c 4) (after0_4 m c) t d
/-- What the body finds in window 5's buffer. -/
theorem before0_5 (c : Dev nD) (t : Fin cfg0.N) (d) : (dats m 0 c).before 5 t d = iblk m c 5 t :=
  before0_5_of m (dats m 0 c) (A_eq m c 5) (after0_5 m c) t d
/-- Window 8's buffer is not rewritten by the pipeline after the first point. -/
theorem fresh8 : ∀ t : Fin cfg0.N, t.val % 10 ≠ 0 → cfg0.fresh 8 t.val = false :=
  (by decide +kernel : ∀ t : Fin grid0.N, t.val % 10 ≠ 0 → cfg0.fresh 8 t.val = false)
/-- What a later point finds in window 8's buffer. -/
theorem before0_8 (c : Dev nD) (t : Fin cfg0.N) (h : t.val % 10 ≠ 0) (d) : (dats m 0 c).before 8 t d = codesOf (grad m c) := by
  rw [(dats m 0 c).before_out_traj 8 rfl (fun _ _ => rfl) (fun t _ _ _ => by rw [after0_8, after0_8]) t.val t rfl d,
    fresh8 t h, if_neg Bool.false_ne_true, after0_8]
/-- Window 9's buffer is not rewritten by the pipeline after the first point. -/
theorem fresh9 : ∀ t : Fin cfg0.N, t.val % 10 ≠ 0 → cfg0.fresh 9 t.val = false :=
  (by decide +kernel : ∀ t : Fin grid0.N, t.val % 10 ≠ 0 → cfg0.fresh 9 t.val = false)
/-- What a later point finds in window 9's buffer. -/
theorem before0_9 (c : Dev nD) (t : Fin cfg0.N) (h : t.val % 10 ≠ 0) (d) : (dats m 0 c).before 9 t d = fun _ => amaxOf (grad m c) := by
  rw [(dats m 0 c).before_out_traj 9 rfl (fun _ _ => rfl) (fun t _ _ _ => by rw [after0_9, after0_9]) t.val t rfl d,
    fresh9 t h, if_neg Bool.false_ne_true, after0_9]
/-- Window 10's buffer is not rewritten by the pipeline after the first point. -/
theorem fresh10 : ∀ t : Fin cfg0.N, t.val % 10 ≠ 0 → cfg0.fresh 10 t.val = false :=
  (by decide +kernel : ∀ t : Fin grid0.N, t.val % 10 ≠ 0 → cfg0.fresh 10 t.val = false)
/-- What a later point finds in window 10's buffer. -/
theorem before0_10 (c : Dev nD) (t : Fin cfg0.N) (h : t.val % 10 ≠ 0) (d) : (dats m 0 c).before 10 t d = fun _ => scaleOf (grad m c) := by
  rw [(dats m 0 c).before_out_traj 10 rfl (fun _ _ => rfl) (fun t _ _ _ => by rw [after0_10, after0_10]) t.val t rfl d,
    fresh10 t h, if_neg Bool.false_ne_true, after0_10]

/-! ## The body obligation -/

/-- Window 0's buffer is handed back at the point's contents. -/
theorem leaves0_0 (c : Dev nD) (t : Fin cfg0.N) :
    (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
    unfold Dat.leavesExact; rw [show cfg0.idle 0 (cfg0.grid.coords t) = false from rfl], after0_0]
/-- Window 1's buffer is handed back at the point's contents. -/
theorem leaves0_1 (c : Dev nD) (t : Fin cfg0.N) :
    (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
    unfold Dat.leavesExact; rw [show cfg0.idle 1 (cfg0.grid.coords t) = false from rfl], after0_1]
/-- Window 2's buffer is handed back at the point's contents. -/
theorem leaves0_2 (c : Dev nD) (t : Fin cfg0.N) :
    (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
    unfold Dat.leavesExact; rw [show cfg0.idle 2 (cfg0.grid.coords t) = false from rfl], after0_2]
/-- Window 3's buffer is handed back at the point's contents. -/
theorem leaves0_3 (c : Dev nD) (t : Fin cfg0.N) :
    (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
    unfold Dat.leavesExact; rw [show cfg0.idle 3 (cfg0.grid.coords t) = false from rfl], after0_3]
/-- Window 4's buffer is handed back at the point's contents. -/
theorem leaves0_4 (c : Dev nD) (t : Fin cfg0.N) :
    (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
    unfold Dat.leavesExact; rw [show cfg0.idle 4 (cfg0.grid.coords t) = false from rfl], after0_4]
/-- Window 5's buffer is handed back at the point's contents. -/
theorem leaves0_5 (c : Dev nD) (t : Fin cfg0.N) :
    (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
    unfold Dat.leavesExact; rw [show cfg0.idle 5 (cfg0.grid.coords t) = false from rfl], after0_5]
/-- Window 6's buffer is handed back at the point's contents. -/
theorem leaves0_6 (c : Dev nD) (t : Fin cfg0.N) :
    (dats m 0 c).leavesExact 6 t = owns (c : Thread nD τ) (ms0_6 t) fullShare (dxOf (iblk m c 1 t) (grad m c) (iblk m c 4 t)) := by
  rw [show (dats m 0 c).leavesExact 6 t = owns (c : Thread nD τ) (ms0_6 t) fullShare ((dats m 0 c).after 6 t) from by
    unfold Dat.leavesExact; rw [show cfg0.idle 6 (cfg0.grid.coords t) = false from rfl], after0_6]
/-- Window 7's buffer is handed back at the point's contents. -/
theorem leaves0_7 (c : Dev nD) (t : Fin cfg0.N) :
    (dats m 0 c).leavesExact 7 t = owns (c : Thread nD τ) (ms0_7 t) fullShare (mgoOf (iblk m c 0 t) (grad m c) (iblk m c 3 t) (iblk m c 5 t)) := by
  rw [show (dats m 0 c).leavesExact 7 t = owns (c : Thread nD τ) (ms0_7 t) fullShare ((dats m 0 c).after 7 t) from by
    unfold Dat.leavesExact; rw [show cfg0.idle 7 (cfg0.grid.coords t) = false from rfl], after0_7]
/-- Window 8's buffer, at the contents that the first point left, is what any point may hand back. -/
theorem leaves0_8 (c : Dev nD) (t : Fin cfg0.N) :
    owns (c : Thread nD τ) (ms0_8 t) fullShare (codesOf (iblk m c 2 t)) ⊢ (dats m 0 c).leavesExact 8 t := by
  rw [iblk2_eq m c t]
  by_cases h : t.val % 10 = 0
  · have e : cfg0.idle 8 (cfg0.grid.coords t) = false := by
      show (!(k0_cond1 (grid0.coords t) == 1#1)) = false
      rw [(hcond0_0 t).mpr h]; rfl
    unfold Dat.leavesExact; rw [e, after0_8]
  · rcases hf : (cfg0.win 8).flush t with _ | _
    · have e : cfg0.idle 8 (cfg0.grid.coords t) = true := by
        show (!(k0_cond1 (grid0.coords t) == 1#1)) = true
        rw [beq_eq_false_iff_ne.mpr (fun h' => h ((hcond0_0 t).mp h'))]; rfl
      rw [(dats m 0 c).leavesExact_idle 8 t e hf]
      iintro H; iexists (codesOf (grad m c))
      rw [before0_8 m c t h]; iexact H
    · unfold Dat.leavesExact; rw [hf, after0_8]
      cases cfg0.idle 8 (cfg0.grid.coords t) <;> exact .rfl
/-- Window 9's buffer, at the contents that the first point left, is what any point may hand back. -/
theorem leaves0_9 (c : Dev nD) (t : Fin cfg0.N) :
    owns (c : Thread nD τ) (ms0_9 t) fullShare (fun _ => amaxOf (iblk m c 2 t)) ⊢ (dats m 0 c).leavesExact 9 t := by
  rw [iblk2_eq m c t]
  by_cases h : t.val % 10 = 0
  · have e : cfg0.idle 9 (cfg0.grid.coords t) = false := by
      show (!(k0_cond1 (grid0.coords t) == 1#1)) = false
      rw [(hcond0_0 t).mpr h]; rfl
    unfold Dat.leavesExact; rw [e, after0_9]; exact .rfl
  · rcases hf : (cfg0.win 9).flush t with _ | _
    · have e : cfg0.idle 9 (cfg0.grid.coords t) = true := by
        show (!(k0_cond1 (grid0.coords t) == 1#1)) = true
        rw [beq_eq_false_iff_ne.mpr (fun h' => h ((hcond0_0 t).mp h'))]; rfl
      rw [(dats m 0 c).leavesExact_idle 9 t e hf]
      iintro H; iexists (fun _ => amaxOf (grad m c))
      rw [before0_9 m c t h]; iexact H
    · unfold Dat.leavesExact; rw [hf, after0_9]
      cases cfg0.idle 9 (cfg0.grid.coords t) <;> exact .rfl
/-- Window 10's buffer, at the contents that the first point left, is what any point may hand back. -/
theorem leaves0_10 (c : Dev nD) (t : Fin cfg0.N) :
    owns (c : Thread nD τ) (ms0_10 t) fullShare (fun _ => scaleOf (iblk m c 2 t)) ⊢ (dats m 0 c).leavesExact 10 t := by
  rw [iblk2_eq m c t]
  by_cases h : t.val % 10 = 0
  · have e : cfg0.idle 10 (cfg0.grid.coords t) = false := by
      show (!(k0_cond1 (grid0.coords t) == 1#1)) = false
      rw [(hcond0_0 t).mpr h]; rfl
    unfold Dat.leavesExact; rw [e, after0_10]; exact .rfl
  · rcases hf : (cfg0.win 10).flush t with _ | _
    · have e : cfg0.idle 10 (cfg0.grid.coords t) = true := by
        show (!(k0_cond1 (grid0.coords t) == 1#1)) = true
        rw [beq_eq_false_iff_ne.mpr (fun h' => h ((hcond0_0 t).mp h'))]; rfl
      rw [(dats m 0 c).leavesExact_idle 10 t e hf]
      iintro H; iexists (fun _ => scaleOf (grad m c))
      rw [before0_10 m c t h]; iexact H
    · unfold Dat.leavesExact; rw [hf, after0_10]
      cases cfg0.idle 10 (cfg0.grid.coords t) <;> exact .rfl

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- What the body returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 2400000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [leaves0_0, leaves0_1, leaves0_2, leaves0_3, leaves0_4, leaves0_5, leaves0_6, leaves0_7,
    show (dats m 0 c).owesAt () t.succ = (dats m 0 c).owesAt () t.castSucc from rfl,
    show (dats m 0 c).Φ t.castSucc = inv m c t.val from rfl, show (dats m 0 c).Φ t.succ = inv m c (t.val + 1) from rfl]
  have hN : t.val < 10 := lt_of_lt_of_eq t.isLt (show cfg0.N = 10 from N_0)
  rw [show inv m c (t.val + 1) = _ from if_neg (Nat.succ_ne_zero _)]
  rw [← iblk2_eq m c t]
  by_cases h0 : t.val % 10 = 0
  · rw [show inv m c t.val = _ from if_pos (by omega), PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA (F := Ideal) c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, ⟨%e6, H6⟩, ⟨%e7, H7⟩, ⟨%e8, H8⟩, ⟨%e9, H9⟩, ⟨%e10, H10⟩, ⟨%e12, HS0⟩, ⟨%e13, HS1⟩⟩
    isplitl [HS0 HS1 Hg]
    · isplitl [HS0 HS1]
      · isplitl [HS0]
        · unfold owns; iexists _; isplitr
          swap; · iexact HS0
          ipureintro; exact runA_codesT c _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) e12
        unfold owns; iexists _; isplitr
        swap; · iexact HS1
        ipureintro; exact runA_keep c _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) e13
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact runA_dx c _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) e6
    isplitl [H7]
    · unfold owns; iexists _; isplitr
      swap; · iexact H7
      ipureintro; exact runA_mgo c _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) e7
    isplitl [H8]
    · iapply (leaves0_8 m c t)
      unfold owns; iexists _; isplitr
      swap; · iexact H8
      ipureintro; exact runA_codes c _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) e8
    isplitl [H9]
    · iapply (leaves0_9 m c t)
      unfold owns; iexists _; isplitr
      swap; · iexact H9
      ipureintro; exact runA_amax c _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) e9
    iapply (leaves0_10 m c t)
    unfold owns; iexists _; isplitr
    swap; · iexact H10
    ipureintro; exact runA_scale c _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) e10
  · rw [show inv m c t.val = _ from if_neg (by omega), ← iblk2_eq m c t]
    simp only [before0_8 m c t h0, before0_9 m c t h0, before0_10 m c t h0]
    rw [← iblk2_eq m c t]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB (F := Ideal) c (grid0.coords t) _ _ _ _ _ _ _ _ _ _ _ _ _ _ _ _ _ _ (ms0_9 t) (hs0_9 t) (ms0_10 t) (hs0_10 t) _ _ _ _ (fun h => h0 ((hcond0_0 t).mp h)) (iblk m c 0 t) (iblk m c 1 t) (iblk m c 2 t) (iblk m c 3 t) (iblk m c 4 t) (iblk m c 5 t) (codesOf (iblk m c 2 t)) (codesTOf (iblk m c 2 t)) (fun _ => scaleOf (iblk m c 2 t))).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [HS0]; · iexact HS0
    isplitl [HS1]; · iexact HS1
    iintro ⟨H0, H1, H2, H3, H4, H5, ⟨%e6, H6⟩, ⟨%e7, H7⟩, H8, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact runB_dx c _ _ _ _ _ _ _ _ _ _ _ _ _ _ _ _ _ _ _ (ms0_9 t) (hs0_9 t) (ms0_10 t) (hs0_10 t) _ _ _ _ (fun h => h0 ((hcond0_0 t).mp h)) (iblk m c 0 t) (iblk m c 1 t) (iblk m c 2 t) (iblk m c 3 t) (iblk m c 4 t) (iblk m c 5 t) e6
    isplitl [H7]
    · unfold owns; iexists _; isplitr
      swap; · iexact H7
      ipureintro; exact runB_mgo c _ _ _ _ _ _ _ _ _ _ _ _ _ _ _ _ _ _ _ (ms0_9 t) (hs0_9 t) (ms0_10 t) (hs0_10 t) _ _ _ _ (fun h => h0 ((hcond0_0 t).mp h)) (iblk m c 0 t) (iblk m c 1 t) (iblk m c 2 t) (iblk m c 3 t) (iblk m c 4 t) (iblk m c 5 t) e7
    isplitl [H8]
    · iapply (leaves0_8 m c t)
      iexact H8
    isplitl [H9]
    · iapply (leaves0_9 m c t)
      iexact H9
    iapply (leaves0_10 m c t)
    iexact H10

/-- The body table's row at a point's slots is the body at that point. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

set_option backward.isDefEq.respectTransparency.types false in
/-- Every execution ends with the arrays at what the proof data say and every semaphore at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [show (dats m 0 c).Φ 0 = inv m c 0 from rfl, show inv m c 0 = _ from if_pos rfl])
    (hout := fun c => by
      rw [show (dats m 0 c).Φ (Fin.last (cfgs 0).N) = inv m c 10 from rfl, show inv m c 10 = _ from if_neg (by decide)]
      show _ ⊢ Pipeline.ΦA spec0 c
      rw [PhiA0_eq]
      iintro ⟨⟨HS0, HS1⟩, Hg⟩
      isplitl [HS0 HS1]
      · isplitl [HS0]
        · iexists _; iexact HS0
        iexists _; iexact HS1
      iexact Hg)

/-- Every execution ends with the arrays at what the proof data say. -/
theorem run_main : θ_run defs (onTc (τ := τ) (main (F := Ideal))) (s₀ m ρ) (Pipeline.FramePost cfgs (dats m) 0 (V m)) :=
  (θ_run defs _ _).mono (fun _ h => h.1) (run_main_quiescent m ρ)

/-- The kernel ends with its argument arrays unchanged and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KFinal.lean ====
/-
  What the kernel's output arrays hold when it ends: every entry as one formula of the whole argument arrays.
-/
module

public import proofs.«01_k».proof.Proof.KData
public import Idealize.ShloMosaic.Lib.MatmulPlain
public import Idealize.ShloMosaic.Lib.Pointwise.Contract

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The formulas -/

/-- The place in row `r` and column `k` of the gradient and of its codes. -/
def at2 (r : Fin 1536) (k : Fin 1024) : S1536x1024.Idx := fun a => match a with | ⟨0, _⟩ => r | ⟨1, _⟩ => k
/-- The place in row `k` and column `n` of the weights. -/
def atW (k : Fin 1024) (n : Fin 5120) : S1024x5120.Idx := fun a => match a with | ⟨0, _⟩ => k | ⟨1, _⟩ => n
/-- The place in row `r` and column `n` of the activations. -/
def atX (r : Fin 1536) (n : Fin 5120) : S1536x5120.Idx := fun a => match a with | ⟨0, _⟩ => r | ⟨1, _⟩ => n

/-- The codes' product with the weights, scaled. -/
def dxAll (x1 : Vec Ideal S1 .f32) (x2 : Vec Ideal S1536x1024 .bf16) (x4 : Vec Ideal S1024x5120 .fp8e4m3) : Vec Ideal S1536x5120 .bf16 := fun j =>
  ((Ideal.ofBits .f32 0x00000000#32 + ∑ k : Fin 1024, codesOf x2 (at2 (j 0) k) * x4 (atW k (j 1))) * (scaleOf x2 * x1 one) : EReal)

/-- The accumulated weight gradient: the transposed codes' product with the activations, scaled and added. -/
def mgoAll (x0 : Vec Ideal S1 .f32) (x2 : Vec Ideal S1536x1024 .bf16) (x3 : Vec Ideal S1536x5120 .fp8e4m3) (x5 : Vec Ideal S1024x5120 .f32) :
    Vec Ideal S1024x5120 .f32 := fun j =>
  (x5 j + (Ideal.ofBits .f32 0x00000000#32 + ∑ r : Fin 1536, codesOf x2 (at2 r (j 0)) * x3 (atX r (j 1))) * (scaleOf x2 * x0 one) : EReal)

/-- The place in row `k` and column `n` of a block of the weights. -/
def atWb (k : Fin 1024) (n : Fin 512) : S1024x512.Idx := fun a => match a with | ⟨0, _⟩ => k | ⟨1, _⟩ => n
/-- The place in row `r` and column `n` of a block of the activations. -/
def atXb (r : Fin 1536) (n : Fin 512) : S1536x512.Idx := fun a => match a with | ⟨0, _⟩ => r | ⟨1, _⟩ => n
/-- The place in row `k` and column `r` of the transposed codes. -/
def atT (k : Fin 1024) (r : Fin 1536) : S1024x1536.Idx := fun a => match a with | ⟨0, _⟩ => k | ⟨1, _⟩ => r

/-- One entry of one block of the product. -/
theorem dxOf_apply (x1 : Vec Ideal S1 .f32) (x2 : Vec Ideal S1536x1024 .bf16) (x4 : Vec Ideal S1024x512 .fp8e4m3) (j : S1536x512.Idx) :
    dxOf x1 x2 x4 j =
      ((Ideal.ofBits .f32 0x00000000#32 + ∑ k : Fin 1024, codesOf x2 (at2 (j 0) k) * x4 (atWb k (j 1))) * (scaleOf x2 * x1 one) : EReal) := by
  have h := Ideal.matmul_apply₁_of dot_S1536x1024_S1024x512_S1536x512_1_0_0_1_n_n (a := 1) rfl (K := 1024) rfl (codesOf x2) x4
    (constant (F := Ideal) S1536x512 .f32 0x00000000#32) j (fun k => at2 (j 0) k) (fun k => atWb k (j 1))
    (fun k => funext fun a => match a with | ⟨0, _⟩ => rfl | ⟨1, _⟩ => rfl)
    (fun k => funext fun a => match a with | ⟨0, _⟩ => rfl | ⟨1, _⟩ => rfl)
  unfold dxOf k0_pay2
  simp only [shapeCast_self]
  exact congrArg (· * (scaleOf x2 * x1 one : EReal)) h

/-- One entry of one block of the accumulated weight gradient. -/
theorem mgoOf_apply (x0 : Vec Ideal S1 .f32) (x2 : Vec Ideal S1536x1024 .bf16) (x3 : Vec Ideal S1536x512 .fp8e4m3) (x5 : Vec Ideal S1024x512 .f32)
    (j : S1024x512.Idx) :
    mgoOf x0 x2 x3 x5 j =
      (x5 j + (Ideal.ofBits .f32 0x00000000#32 + ∑ r : Fin 1536, codesOf x2 (at2 r (j 0)) * x3 (atXb r (j 1))) * (scaleOf x2 * x0 one) : EReal) := by
  have h := Ideal.matmul_apply₁_of dot_S1024x1536_S1536x512_S1024x512_1_0_0_1_n_n (a := 1) rfl (K := 1536) rfl (codesTOf x2) x3
    (constant (F := Ideal) S1024x512 .f32 0x00000000#32) j (fun r => atT (j 0) r) (fun r => atXb r (j 1))
    (fun k => funext fun a => match a with | ⟨0, _⟩ => rfl | ⟨1, _⟩ => rfl)
    (fun k => funext fun a => match a with | ⟨0, _⟩ => rfl | ⟨1, _⟩ => rfl)
  have e : ∀ r, swap (atT (j 0) r) = at2 r (j 0) := fun r => funext fun a => match a with | ⟨0, _⟩ => rfl | ⟨1, _⟩ => rfl
  simp only [codesTOf, e] at h
  unfold mgoOf k0_pay3
  simp only [shapeCast_self]
  exact congrArg (fun z => (x5 j + z * (scaleOf x2 * x0 one) : EReal)) h

/-! ## The windows' places -/

/-- The scales' windows stay at their array's only block. -/
theorem idx0 : ∀ t : Fin cfg0.N, win0_0.index t = ![0] := (by decide +kernel : ∀ t : Fin grid0.N, win0_0.index t = ![0])
/-- The scales' windows stay at their array's only block. -/
theorem idx1 : ∀ t : Fin cfg0.N, win0_1.index t = ![0] := (by decide +kernel : ∀ t : Fin grid0.N, win0_1.index t = ![0])
/-- The activations' window at point `t` is the `t`-th block of columns. -/
theorem idx3 : ∀ t : Fin cfg0.N, win0_3.index t = ![0, t.val] := (by decide +kernel : ∀ t : Fin grid0.N, win0_3.index t = ![0, t.val])
/-- The weights' window at point `t` is the `t`-th block of columns. -/
theorem idx4 : ∀ t : Fin cfg0.N, win0_4.index t = ![0, t.val] := (by decide +kernel : ∀ t : Fin grid0.N, win0_4.index t = ![0, t.val])
/-- The old weight gradient's window at point `t` is the `t`-th block of columns. -/
theorem idx5 : ∀ t : Fin cfg0.N, win0_5.index t = ![0, t.val] := (by decide +kernel : ∀ t : Fin grid0.N, win0_5.index t = ![0, t.val])
/-- The product's window at point `t` is the `t`-th block of columns. -/
theorem idx6 : ∀ t : Fin cfg0.N, win0_6.index t = ![0, t.val] := (by decide +kernel : ∀ t : Fin grid0.N, win0_6.index t = ![0, t.val])
/-- The new weight gradient's window at point `t` is the `t`-th block of columns. -/
theorem idx7 : ∀ t : Fin cfg0.N, win0_7.index t = ![0, t.val] := (by decide +kernel : ∀ t : Fin grid0.N, win0_7.index t = ![0, t.val])
/-- The codes' window stays at the array's only block. -/
theorem idx8 : ∀ t : Fin cfg0.N, win0_8.index t = ![0, 0] := (by decide +kernel : ∀ t : Fin grid0.N, win0_8.index t = ![0, 0])

variable (m : (ℓ : Loc nD τ sig) → Buf (Elt Ideal) ℓ)

/-- The activations' scale, as the region finds it. -/
def xScale (c : Dev nD) : Vec Ideal S1 .f32 := V m c (Pipeline.arrRef spec0 0)
/-- The weights' scale, as the region finds it. -/
def wScale (c : Dev nD) : Vec Ideal S1 .f32 := V m c (Pipeline.arrRef spec0 1)
/-- The activations' codes, as the region finds them. -/
def acts (c : Dev nD) : Vec Ideal S1536x5120 .fp8e4m3 := V m c (Pipeline.arrRef spec0 3)
/-- The weights' codes, as the region finds them. -/
def weights (c : Dev nD) : Vec Ideal S1024x5120 .fp8e4m3 := V m c (Pipeline.arrRef spec0 4)
/-- The old weight gradient, as the region finds it. -/
def oldGrad (c : Dev nD) : Vec Ideal S1024x5120 .f32 := V m c (Pipeline.arrRef spec0 5)

/-- Every point's block of the activations' scale is the scale. -/
theorem iblk0_eq (c : Dev nD) (t : Fin cfg0.N) : iblk m c 0 t = xScale m c := by
  unfold xScale
  blk_ext! [iblk, idx0 t]

/-- Every point's block of the weights' scale is the scale. -/
theorem iblk1_eq (c : Dev nD) (t : Fin cfg0.N) : iblk m c 1 t = wScale m c := by
  unfold wScale
  blk_ext! [iblk, idx1 t]

/-- The maximum that the kernel leaves. -/
theorem final9 (c : Dev nD) : (dats m 0 c).arrAt 9 cfg0.N = fun _ => amaxOf (grad m c) := by
  refine (dats m 0 c).arrAt_eq_of_covers 9 _ (by decide +kernel) fun t hf y => ?_
  blk_simp
  rw [after0_9]

/-- The scale that the kernel leaves. -/
theorem final10 (c : Dev nD) : (dats m 0 c).arrAt 10 cfg0.N = fun _ => scaleOf (grad m c) := by
  refine (dats m 0 c).arrAt_eq_of_covers 10 _ (by decide +kernel) fun t hf y => ?_
  blk_simp
  rw [after0_10]

/-- The codes that the kernel leaves. -/
theorem final8 (c : Dev nD) : (dats m 0 c).arrAt 8 cfg0.N = codesOf (grad m c) := by
  refine (dats m 0 c).arrAt_eq_of_covers 8 _ (by decide +kernel) fun t hf y => ?_
  blk_simp
  rw [after0_8]
  refine congrArg (codesOf (grad m c)) ?_
  blk_ext [idx8 t]

/-- The rows of the product's window are the array's. -/
theorem emb6_0 (t : Fin cfg0.N) (y : S1536x512.Idx) : (((win0_6.blk t).view.emb y 0 : Fin _) : ℕ) = y 0 := by
  blk_simp [idx6 t]

/-- The columns of the product's window at point `t` start at `512 t`. -/
theorem emb6_1 (t : Fin cfg0.N) (y : S1536x512.Idx) : (((win0_6.blk t).view.emb y 1 : Fin _) : ℕ) = t.val * 512 + y 1 := by
  blk_simp [idx6 t]

/-- The rows of the weight gradient's window are the array's. -/
theorem emb7_0 (t : Fin cfg0.N) (y : S1024x512.Idx) : (((win0_7.blk t).view.emb y 0 : Fin _) : ℕ) = y 0 := by
  blk_simp [idx7 t]

/-- The columns of the weight gradient's window at point `t` start at `512 t`. -/
theorem emb7_1 (t : Fin cfg0.N) (y : S1024x512.Idx) : (((win0_7.blk t).view.emb y 1 : Fin _) : ℕ) = t.val * 512 + y 1 := by
  blk_simp [idx7 t]

/-- A block of the weights at its place. -/
theorem iblk4_apply (c : Dev nD) (t : Fin cfg0.N) (k : Fin 1024) (n : Fin 512) (n' : Fin 5120) (h : n'.val = t.val * 512 + n) :
    iblk m c 4 t (atWb k n) = weights m c (atW k n') := by
  unfold weights
  blk_simp [iblk, idx4 t]
  refine congrArg _ (funext fun a => Fin.ext ?_)
  match a with
  | ⟨0, _⟩ => show (((win0_4.blk t).view.emb (atWb k n) 0 : Fin _) : ℕ) = k; blk_simp [idx4 t]; rfl
  | ⟨1, _⟩ => show (((win0_4.blk t).view.emb (atWb k n) 1 : Fin _) : ℕ) = n'; blk_simp [idx4 t]; exact h.symm

/-- A block of the activations at its place. -/
theorem iblk3_apply (c : Dev nD) (t : Fin cfg0.N) (r : Fin 1536) (n : Fin 512) (n' : Fin 5120) (h : n'.val = t.val * 512 + n) :
    iblk m c 3 t (atXb r n) = acts m c (atX r n') := by
  unfold acts
  blk_simp [iblk, idx3 t]
  refine congrArg _ (funext fun a => Fin.ext ?_)
  match a with
  | ⟨0, _⟩ => show (((win0_3.blk t).view.emb (atXb r n) 0 : Fin _) : ℕ) = r; blk_simp [idx3 t]; rfl
  | ⟨1, _⟩ => show (((win0_3.blk t).view.emb (atXb r n) 1 : Fin _) : ℕ) = n'; blk_simp [idx3 t]; exact h.symm

/-- The product that the kernel leaves. -/
theorem final6 (c : Dev nD) : (dats m 0 c).arrAt 6 cfg0.N = dxAll (wScale m c) (grad m c) (weights m c) := by
  refine (dats m 0 c).arrAt_eq_of_covers 6 _ (by decide +kernel) fun t hf y => ?_
  blk_simp
  rw [after0_6, dxOf_apply, iblk1_eq, dxAll]
  refine congrArg (· * (scaleOf (grad m c) * wScale m c one : EReal)) (congrArg (Ideal.ofBits .f32 0x00000000#32 + ·)
    (Finset.sum_congr rfl fun k _ => congr (congrArg HMul.hMul ?_) ?_))
  · exact congrArg (fun r => codesOf (grad m c) (at2 r k)) (Fin.ext (emb6_0 t y).symm)
  · exact iblk4_apply m c t k (y 1) _ (emb6_1 t y)

/-- The new weight gradient that the kernel leaves. -/
theorem final7 (c : Dev nD) : (dats m 0 c).arrAt 7 cfg0.N = mgoAll (xScale m c) (grad m c) (acts m c) (oldGrad m c) := by
  refine (dats m 0 c).arrAt_eq_of_covers 7 _ (by decide +kernel) fun t hf y => ?_
  blk_simp
  rw [after0_7, mgoOf_apply, iblk0_eq, mgoAll]
  refine congr (congrArg HAdd.hAdd ?_) (congrArg (· * (scaleOf (grad m c) * xScale m c one : EReal)) (congrArg (Ideal.ofBits .f32 0x00000000#32 + ·)
    (Finset.sum_congr rfl fun r _ => congr (congrArg HMul.hMul ?_) ?_)))
  · unfold oldGrad
    blk_ext! [iblk, idx5 t, idx7 t]
  · exact congrArg (fun k => codesOf (grad m c) (at2 r k)) (Fin.ext (emb7_0 t y).symm)
  · exact iblk3_apply m c t r (y 1) _ (emb7_1 t y)

end Cert.KernelIdeal.Hand

end
-- ==== Proof.RVals.lean ====
/-
  What the reference's output arrays hold when it ends: every entry as one formula of the whole argument arrays.
-/
module

public import proofs.«01_k».proof.Proof.KFinal
public import proofs.«01_k».proof.Proof.Gen.ReferenceIdeal.Value

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL.Sem
open Idealize.ShloMosaic.Pipeline (Dat)

open Cert.KernelIdeal.Hand (eabs ofBits_bot reduceAll_le amaxOf ratioOf scaleOf codesOf clip one dxAll mgoAll at2 atW atX)

/-- One-element arrays have one place. -/
instance : Subsingleton S1.Idx := inferInstanceAs (Subsingleton Cert.KernelIdeal.S1.Idx)

/-- The condition on the gradient: the number that the exponent is read from is zero or has a normal exponent. -/
def Good (x2 : Vec Ideal S1536x1024 .bf16) : Prop :=
  ratioOf x2 = 0 ∨ (Ideal.ofBits .f32 0x00800000#32 ≤ ratioOf x2 ∧ ratioOf x2 < Ideal.ofBits .f32 0x7E800000#32)

/-- The constant that the maximum is multiplied by is not zero. -/
theorem const_ne : Ideal.ofBits .f32 0x37924925#32 ≠ 0 := by
  simp [Ideal.ofBits, Ideal.ieee]

/-- The maximum is zero exactly when its multiple is. -/
theorem amax_zero_iff (x2 : Vec Ideal S1536x1024 .bf16) : amaxOf x2 = 0 ↔ ratioOf x2 = 0 := by
  unfold ratioOf
  constructor
  · intro h; rw [h, zero_mul]
  · intro h
    rcases mul_eq_zero.mp h with h | h
    · exact h
    · exact absurd h const_ne

/-- The reference's exponent. -/
def expOf (x2 : Vec Ideal S1536x1024 .bf16) : EReal := PowTwo.rExp (amaxOf x2) (ratioOf x2)

/-- The scale is two to the reference's exponent, and the kernel's reciprocal is two to its negative. -/
theorem scale_eq (x2 : Vec Ideal S1536x1024 .bf16) (h : Good x2) :
    scaleOf x2 = Ideal.exp2 (expOf x2) ∧ PowTwo.kInv (ratioOf x2) = Ideal.exp2 (Ideal.ofBits .f32 0x00000000#32 - expOf x2) :=
  PowTwo.scale_eq (amax_zero_iff x2) h

/-- A number bounds a reshaped array when it bounds the array. -/
theorem shapeCast_le {s t : Shape} (v : s.Idx → EReal) (h : s.ShapeCasts t) (B : EReal) : (∀ i, shapeCast t v h i ≤ B) ↔ ∀ i, v i ≤ B := by
  constructor
  · intro g i
    have := g ((Shape.reshapeEquiv h).symm i)
    refine le_trans (le_of_eq ?_) this
    show v i = v _
    rw [Equiv.apply_symm_apply]
  · intro g i
    exact g _

/-- The one element of a reshaped one-element array. -/
theorem extract_one (v : S1.Idx → EReal) : extractAt ![0, 0, 0] (shapeCast S1x1x1 v shapeCasts_S1_S1x1x1) inpos_S1x1x1_p0_0_0 = v one :=
  congrArg v (Subsingleton.elim _ _)

/-- A number bounds the maximum of the reshaped array when it bounds every element. -/
theorem max_le_iff' (v : FVec Ideal S1536x1024 .f32) (B : EReal) :
    multiReduction .maximumf [1, 2] S1 (shapeCast S1x1536x1024 v shapeCasts_S1536x1024_S1x1536x1024) 0xFF800000#32 reduces_S1x1536x1024_S1 (.inl rfl) rfl one ≤ B
      ↔ ∀ i, v i ≤ B :=
  (reduceAll_le (s := S1x1536x1024) (t := S1) _ _ _ _ _ _).trans (shapeCast_le v _ B)

/-- The absolute values that the maximum is over. -/
theorem abs_pay3 (x2 : Vec Ideal S1536x1024 .bf16) : absf (k0_pay3 (F := Ideal) x2) = fun i => eabs (x2 i) := by
  unfold k0_pay3
  simp only [shapeCast_self]
  rfl

/-- The reference's maximum. -/
theorem pay4_eq (x2 : Vec Ideal S1536x1024 .bf16) : k0_pay4 (F := Ideal) x2 = fun _ => amaxOf x2 := by
  have h : multiReduction .maximumf [1, 2] S1 (shapeCast S1x1536x1024 (absf (k0_pay3 (F := Ideal) x2)) shapeCasts_S1536x1024_S1x1536x1024)
      0xFF800000#32 reduces_S1x1536x1024_S1 (.inl rfl) rfl one = amaxOf x2 := by
    refine eq_of_forall_ge_iff fun B => ?_
    refine (max_le_iff' (absf (k0_pay3 (F := Ideal) x2)) B).trans ?_
    rw [abs_pay3]
    exact iSup_le_iff.symm
  unfold k0_pay4
  dsimp only
  rw [extract_one, h]
  rfl

/-- The reference's exponent. -/
theorem pay5_eq (x2 : Vec Ideal S1536x1024 .bf16) : k0_pay5 (F := Ideal) x2 = fun _ => expOf x2 := by
  unfold k0_pay5
  rw [pay4_eq]
  rfl

/-- The reference's scale. -/
theorem pay6_eq (x2 : Vec Ideal S1536x1024 .bf16) (h : Good x2) : k0_pay6 (F := Ideal) x2 = fun _ => scaleOf x2 := by
  unfold k0_pay6
  rw [pay5_eq, (scale_eq x2 h).1]
  rfl

/-- The reference's codes. -/
theorem pay7_eq (x2 : Vec Ideal S1536x1024 .bf16) (h : Good x2) : k0_pay7 (F := Ideal) x2 = codesOf x2 := by
  unfold k0_pay7
  rw [pay5_eq]
  unfold codesOf
  rw [(scale_eq x2 h).2]
  unfold k0_pay3
  simp only [shapeCast_self]
  rfl

/-- The codes that the reference's products use. -/
theorem pay8_eq (x2 : Vec Ideal S1536x1024 .bf16) (h : Good x2) : k0_pay8 (F := Ideal) x2 = codesOf x2 := by
  unfold k0_pay8
  rw [pay7_eq x2 h]
  rfl

/-- The reference's maximum as a number. -/
theorem pay9_eq (x2 : Vec Ideal S1536x1024 .bf16) : k0_pay9 (F := Ideal) x2 = amaxOf x2 := by
  unfold k0_pay9
  rw [pay4_eq]
  rfl

/-- The reference's scale as a number. -/
theorem pay10_eq (x2 : Vec Ideal S1536x1024 .bf16) (h : Good x2) : k0_pay10 (F := Ideal) x2 = scaleOf x2 := by
  unfold k0_pay10
  rw [pay6_eq x2 h]
  rfl

/-- The reference's product, given the scale and the codes. -/
theorem pay1_eq (x1 : Vec Ideal S1 .f32) (x2 : Vec Ideal S1536x1024 .bf16) (x4 : Vec Ideal S1024x5120 .fp8e4m3) :
    k0_pay1 (F := Ideal) (fun _ => scaleOf x2) (codesOf x2) x4 (x1 one) = dxAll x1 x2 x4 := by
  funext j
  have h := Ideal.matmul_apply₁_of dot_S1536x1024_S1024x5120_S1536x5120_1_0_0_1_n_n (a := 1) rfl (K := 1024) rfl (codesOf x2) x4
    (constant (F := Ideal) S1536x5120 .f32 0x00000000#32) j (fun k => at2 (j 0) k) (fun k => atW k (j 1))
    (fun k => funext fun a => match a with | ⟨0, _⟩ => rfl | ⟨1, _⟩ => rfl)
    (fun k => funext fun a => match a with | ⟨0, _⟩ => rfl | ⟨1, _⟩ => rfl)
  unfold k0_pay1 dxAll
  exact congrArg (· * (scaleOf x2 * x1 one : EReal)) h

/-- The reference's new weight gradient, given the scale and the codes. -/
theorem pay2_eq (x0 : Vec Ideal S1 .f32) (x2 : Vec Ideal S1536x1024 .bf16) (x3 : Vec Ideal S1536x5120 .fp8e4m3) (x5 : Vec Ideal S1024x5120 .f32) :
    k0_pay2 (F := Ideal) (fun _ => scaleOf x2) (codesOf x2) x3 x5 (x0 one) = mgoAll x0 x2 x3 x5 := by
  funext j
  have h := Ideal.matmul_apply₁_of dot_S1536x1024_S1536x5120_S1024x5120_0_0_1_1_n_n (a := 0) rfl (K := 1536) rfl (codesOf x2) x3
    (constant (F := Ideal) S1024x5120 .f32 0x00000000#32) j (fun r => at2 r (j 0)) (fun r => atX r (j 1))
    (fun k => funext fun a => match a with | ⟨0, _⟩ => rfl | ⟨1, _⟩ => rfl)
    (fun k => funext fun a => match a with | ⟨0, _⟩ => rfl | ⟨1, _⟩ => rfl)
  unfold k0_pay2 mgoAll
  simp only [shapeCast_self]
  exact congrArg (fun z => (x5 j + z * (scaleOf x2 * x0 one) : EReal)) h

variable (m : (ℓ : Loc nD τ sig) → Buf (Elt Ideal) ℓ)

/-! ## The arrays that the region finds -/

/-- The gradient, as the region finds it. -/
def grad (c : Dev nD) : Vec Ideal S1536x1024 .bf16 := V m c (Pipeline.arrRef spec0 2)
/-- The activations' scale, as the region finds it. -/
def xScale (c : Dev nD) : Vec Ideal S1 .f32 := V m c (Pipeline.arrRef spec0 0)
/-- The weights' scale, as the region finds it. -/
def wScale (c : Dev nD) : Vec Ideal S1 .f32 := V m c (Pipeline.arrRef spec0 1)
/-- The activations' codes, as the region finds them. -/
def acts (c : Dev nD) : Vec Ideal S1536x5120 .fp8e4m3 := V m c (Pipeline.arrRef spec0 3)
/-- The weights' codes, as the region finds them. -/
def weights (c : Dev nD) : Vec Ideal S1024x5120 .fp8e4m3 := V m c (Pipeline.arrRef spec0 4)
/-- The old weight gradient, as the region finds it. -/
def oldGrad (c : Dev nD) : Vec Ideal S1024x5120 .f32 := V m c (Pipeline.arrRef spec0 5)

/-- The one point's window 0 is its whole array. -/
theorem idx0 : ∀ t : Fin cfg0.N, win0_0.index t = ![0] := (by decide +kernel : ∀ t : Fin grid0.N, win0_0.index t = ![0])
/-- The one point's block 0 is its whole array. -/
theorem iblk0_eq (c : Dev nD) (t : Fin cfg0.N) : iblk m c 0 t = xScale m c := by
  unfold xScale
  blk_ext! [iblk, idx0 t]
/-- The one point's window 1 is its whole array. -/
theorem idx1 : ∀ t : Fin cfg0.N, win0_1.index t = ![0] := (by decide +kernel : ∀ t : Fin grid0.N, win0_1.index t = ![0])
/-- The one point's block 1 is its whole array. -/
theorem iblk1_eq (c : Dev nD) (t : Fin cfg0.N) : iblk m c 1 t = wScale m c := by
  unfold wScale
  blk_ext! [iblk, idx1 t]
/-- The one point's window 2 is its whole array. -/
theorem idx2 : ∀ t : Fin cfg0.N, win0_2.index t = ![0, 0] := (by decide +kernel : ∀ t : Fin grid0.N, win0_2.index t = ![0, 0])
/-- The one point's block 2 is its whole array. -/
theorem iblk2_eq (c : Dev nD) (t : Fin cfg0.N) : iblk m c 2 t = grad m c := by
  unfold grad
  blk_ext! [iblk, idx2 t]
/-- The one point's window 3 is its whole array. -/
theorem idx3 : ∀ t : Fin cfg0.N, win0_3.index t = ![0, 0] := (by decide +kernel : ∀ t : Fin grid0.N, win0_3.index t = ![0, 0])
/-- The one point's block 3 is its whole array. -/
theorem iblk3_eq (c : Dev nD) (t : Fin cfg0.N) : iblk m c 3 t = acts m c := by
  unfold acts
  blk_ext! [iblk, idx3 t]
/-- The one point's window 4 is its whole array. -/
theorem idx4 : ∀ t : Fin cfg0.N, win0_4.index t = ![0, 0] := (by decide +kernel : ∀ t : Fin grid0.N, win0_4.index t = ![0, 0])
/-- The one point's block 4 is its whole array. -/
theorem iblk4_eq (c : Dev nD) (t : Fin cfg0.N) : iblk m c 4 t = weights m c := by
  unfold weights
  blk_ext! [iblk, idx4 t]
/-- The one point's window 5 is its whole array. -/
theorem idx5 : ∀ t : Fin cfg0.N, win0_5.index t = ![0, 0] := (by decide +kernel : ∀ t : Fin grid0.N, win0_5.index t = ![0, 0])
/-- The one point's block 5 is its whole array. -/
theorem iblk5_eq (c : Dev nD) (t : Fin cfg0.N) : iblk m c 5 t = oldGrad m c := by
  unfold oldGrad
  blk_ext! [iblk, idx5 t]
/-- The one point's window 6 is its whole array. -/
theorem idx6 : ∀ t : Fin cfg0.N, win0_6.index t = ![0, 0] := (by decide +kernel : ∀ t : Fin grid0.N, win0_6.index t = ![0, 0])
/-- The one point's window 7 is its whole array. -/
theorem idx7 : ∀ t : Fin cfg0.N, win0_7.index t = ![0, 0] := (by decide +kernel : ∀ t : Fin grid0.N, win0_7.index t = ![0, 0])
/-- The one point's window 9 is its whole array. -/
theorem idx9 : ∀ t : Fin cfg0.N, win0_9.index t = ![0, 0] := (by decide +kernel : ∀ t : Fin grid0.N, win0_9.index t = ![0, 0])

/-! ## The arrays that the reference leaves -/

/-- A read of all of window 0's buffer. -/
theorem rd0 (t : Fin cfg0.N) (X) : View.read (Elt Ideal) (View.whole cc0_stg0_0) ((hs0_0 t).unread X) = X := (hs0_0 t).read_unread X
/-- A read of all of window 1's buffer. -/
theorem rd1 (t : Fin cfg0.N) (X) : View.read (Elt Ideal) (View.whole cc0_stg1_0) ((hs0_1 t).unread X) = X := (hs0_1 t).read_unread X
/-- A read of all of window 2's buffer. -/
theorem rd2 (t : Fin cfg0.N) (X) : View.read (Elt Ideal) (View.whole cc0_stg2_0) ((hs0_2 t).unread X) = X := (hs0_2 t).read_unread X
/-- A read of all of window 3's buffer. -/
theorem rd3 (t : Fin cfg0.N) (X) : View.read (Elt Ideal) (View.whole cc0_stg3_0) ((hs0_3 t).unread X) = X := (hs0_3 t).read_unread X
/-- A read of all of window 4's buffer. -/
theorem rd4 (t : Fin cfg0.N) (X) : View.read (Elt Ideal) (View.whole cc0_stg4_0) ((hs0_4 t).unread X) = X := (hs0_4 t).read_unread X
/-- A read of all of window 5's buffer. -/
theorem rd5 (t : Fin cfg0.N) (X) : View.read (Elt Ideal) (View.whole cc0_stg5_0) ((hs0_5 t).unread X) = X := (hs0_5 t).read_unread X

/-- The maximum that the reference leaves. -/
theorem final8 (c : Dev nD) : (dats m 0 c).arrAt 8 cfg0.N = fun _ => amaxOf (grad m c) := by
  refine (dats m 0 c).arrAt_eq_of_covers 8 _ (by decide +kernel) fun t hf y => ?_
  blk_simp
  rw [after0_8]
  simp only [outsAt0]
  frame_out
  simp only [rd0, rd1, rd2, rd3, rd4, rd5]
  rw [iblk2_eq, pay9_eq]
/-- The scale that the reference leaves. -/
theorem final10 (c : Dev nD) (h : Good (grad m c)) : (dats m 0 c).arrAt 10 cfg0.N = fun _ => scaleOf (grad m c) := by
  refine (dats m 0 c).arrAt_eq_of_covers 10 _ (by decide +kernel) fun t hf y => ?_
  blk_simp
  rw [after0_10]
  simp only [outsAt0]
  frame_out
  simp only [rd0, rd1, rd2, rd3, rd4, rd5]
  rw [iblk2_eq, pay10_eq _ h]
/-- The codes that the reference leaves. -/
theorem final9 (c : Dev nD) (h : Good (grad m c)) : (dats m 0 c).arrAt 9 cfg0.N = codesOf (grad m c) := by
  refine (dats m 0 c).arrAt_eq_of_covers 9 _ (by decide +kernel) fun t hf y => ?_
  blk_simp
  rw [after0_9]
  simp only [outsAt0]
  frame_out
  simp only [rd0, rd1, rd2, rd3, rd4, rd5]
  rw [iblk2_eq, pay7_eq _ h]
  refine congrArg (codesOf (grad m c)) ?_
  blk_ext [idx9 t]
/-- The product that the reference leaves. -/
theorem final6 (c : Dev nD) (h : Good (grad m c)) : (dats m 0 c).arrAt 6 cfg0.N = dxAll (wScale m c) (grad m c) (weights m c) := by
  refine (dats m 0 c).arrAt_eq_of_covers 6 _ (by decide +kernel) fun t hf y => ?_
  blk_simp
  rw [after0_6]
  simp only [outsAt0]
  frame_out
  simp only [rd0, rd1, rd2, rd3, rd4, rd5]
  rw [iblk2_eq, pay6_eq _ h, pay8_eq _ h, iblk1_eq, iblk4_eq]
  refine (congrFun (pay1_eq (wScale m c) (grad m c) (weights m c)) y).trans ?_
  refine congrArg (dxAll (wScale m c) (grad m c) (weights m c)) ?_
  blk_ext [idx6 t]
/-- The new weight gradient that the reference leaves. -/
theorem final7 (c : Dev nD) (h : Good (grad m c)) : (dats m 0 c).arrAt 7 cfg0.N = mgoAll (xScale m c) (grad m c) (acts m c) (oldGrad m c) := by
  refine (dats m 0 c).arrAt_eq_of_covers 7 _ (by decide +kernel) fun t hf y => ?_
  blk_simp
  rw [after0_7]
  simp only [outsAt0]
  frame_out
  simp only [rd0, rd1, rd2, rd3, rd4, rd5]
  rw [iblk2_eq, pay6_eq _ h, pay8_eq _ h, iblk0_eq, iblk3_eq, iblk5_eq]
  refine (congrFun (pay2_eq (xScale m c) (grad m c) (acts m c) (oldGrad m c)) y).trans ?_
  refine congrArg (mgoAll (xScale m c) (grad m c) (acts m c) (oldGrad m c)) ?_
  blk_ext [idx7 t]
end Cert.ReferenceIdeal.Hand

end
-- ==== Proof.Entry.lean ====
/-
  The arrays that the two programs' kernels find are the arguments, reshaped, and the precondition read as a condition on
  the gradient.
-/
module

public import proofs.«01_k».proof.Proof.RVals
public import proofs.«01_k».proof.Defs
public import proofs.«01_k».proof.Proof.Gen.Pre_amax_zero_or_normal

@[expose] public section

set_option maxRecDepth 16384

noncomputable section

open Idealize.ShloMosaic Idealize.ShloMosaic.TcCoe Idealize.ShloMosaic.Tactic
open Idealize.SL.Sem

namespace Cert.KernelIdeal.Hand

open Cert.KernelIdeal Cert.KernelIdeal.Gen

variable (m : (ℓ : Loc nD τ sig) → Buf (Elt Ideal) ℓ)

/-- The gradient is the first argument, reshaped. -/
theorem grad_eq (c : Dev nD) : grad m c = shapeCast S1536x1024 (m ((c.tc : Thread nD τ).loc main_arg0)) shapeCasts_S6x256x1024_S1536x1024 := by
  unfold grad
  show V m c main_v2 = _
  entry_read
  rfl

/-- The activations are the second argument, reshaped. -/
theorem acts_eq (c : Dev nD) : acts m c = shapeCast S1536x5120 (m ((c.tc : Thread nD τ).loc main_arg1)) shapeCasts_S6x256x5120_S1536x5120 := by
  unfold acts
  show V m c main_v3 = _
  entry_read
  rfl

/-- The activations' scale is the third argument, reshaped. -/
theorem xScale_eq (c : Dev nD) : xScale m c = shapeCast S1 (m ((c.tc : Thread nD τ).loc main_arg2)) shapeCasts_S_S1 := by
  unfold xScale
  show V m c main_v0 = _
  entry_read
  rfl

/-- The weights' scale is the fifth argument, reshaped. -/
theorem wScale_eq (c : Dev nD) : wScale m c = shapeCast S1 (m ((c.tc : Thread nD τ).loc main_arg4)) shapeCasts_S_S1 := by
  unfold wScale
  show V m c main_v1 = _
  entry_read
  rfl

/-- The weights are the fourth argument. -/
theorem weights_eq (c : Dev nD) : weights m c = m ((c.tc : Thread nD τ).loc main_arg3) := by
  unfold weights
  exact V_main_arg3 m c

/-- The old weight gradient is the sixth argument. -/
theorem oldGrad_eq (c : Dev nD) : oldGrad m c = m ((c.tc : Thread nD τ).loc main_arg5) := by
  unfold oldGrad
  exact V_main_arg5 m c

end Cert.KernelIdeal.Hand

namespace Cert.ReferenceIdeal.Hand

open Cert.ReferenceIdeal Cert.ReferenceIdeal.Gen

variable (m : (ℓ : Loc nD τ sig) → Buf (Elt Ideal) ℓ)

/-- The gradient is the first argument, reshaped. -/
theorem grad_eq (c : Dev nD) : grad m c = shapeCast S1536x1024 (m ((c.tc : Thread nD τ).loc main_arg0)) shapeCasts_S6x256x1024_S1536x1024 := by
  unfold grad
  show V m c main_v2 = _
  entry_read
  rfl

/-- The activations are the second argument, reshaped. -/
theorem acts_eq (c : Dev nD) : acts m c = shapeCast S1536x5120 (m ((c.tc : Thread nD τ).loc main_arg1)) shapeCasts_S6x256x5120_S1536x5120 := by
  unfold acts
  show V m c main_v3 = _
  entry_read
  rfl

/-- The activations' scale is the third argument, reshaped. -/
theorem xScale_eq (c : Dev nD) : xScale m c = shapeCast S1 (m ((c.tc : Thread nD τ).loc main_arg2)) shapeCasts_S_S1 := by
  unfold xScale
  show V m c main_v0 = _
  entry_read
  rfl

/-- The weights' scale is the fifth argument, reshaped. -/
theorem wScale_eq (c : Dev nD) : wScale m c = shapeCast S1 (m ((c.tc : Thread nD τ).loc main_arg4)) shapeCasts_S_S1 := by
  unfold wScale
  show V m c main_v1 = _
  entry_read
  rfl

/-- The weights are the fourth argument. -/
theorem weights_eq (c : Dev nD) : weights m c = m ((c.tc : Thread nD τ).loc main_arg3) := by
  unfold weights
  exact V_main_arg3 m c

/-- The old weight gradient is the sixth argument. -/
theorem oldGrad_eq (c : Dev nD) : oldGrad m c = m ((c.tc : Thread nD τ).loc main_arg5) := by
  unfold oldGrad
  exact V_main_arg5 m c

end Cert.ReferenceIdeal.Hand

namespace Cert.Entry

open Cert.KernelIdeal.Hand (eabs ofBits_bot amaxOf ratioOf)
open Cert.ReferenceIdeal.Hand (Good shapeCast_le)
open Cert.Pre_amax_zero_or_normal (S6x256x1024 S_)

/-- A scalar has one place. -/
instance : Subsingleton S_.Idx := ⟨fun a b => funext fun d => d.elim0⟩

/-- The maximum over a whole argument. -/
def hostMax (x : FVec Ideal S6x256x1024 .f32) (h : S6x256x1024.ReducesTo [0, 1, 2] S_) (hu : 0 < S_.numel) : FVec Ideal S_ .f32 :=
  Host.reduce (FloatOps.maximumf (F := Ideal) (φ := .f32)) x (constant (F := Ideal) S_ .f32 0xFF800000#32) h hu

/-- A number bounds the maximum over a whole argument when it bounds every element. -/
theorem hostMax_le (x : FVec Ideal S6x256x1024 .f32) (h : S6x256x1024.ReducesTo [0, 1, 2] S_) (hu : 0 < S_.numel) (j : S_.Idx) (B : EReal) :
    (hostMax x h hu j : EReal) ≤ B ↔ ∀ i, x i ≤ B := by
  unfold hostMax
  rw [Host.reduce_eq_fold]
  have e : (Finset.univ.filter fun i => h.drop i = j) = Finset.univ := by
    ext i; simp [Subsingleton.elim (h.drop i) j]
  rw [e]
  refine (Finset.fold_max_le (f := x) (b := Ideal.ofBits .f32 0xFF800000#32) B).trans ?_
  rw [ofBits_bot]
  simp

/-- The maximum over the argument is the maximum over the reshaped argument. -/
theorem hostMax_eq (x : FVec Ideal S6x256x1024 .bf16) (hc : S6x256x1024.ShapeCasts Cert.KernelIdeal.S1536x1024)
    (h : S6x256x1024.ReducesTo [0, 1, 2] S_) (hu : 0 < S_.numel) (j : S_.Idx) :
    (hostMax (fun i => eabs (x i)) h hu j : EReal) = amaxOf (shapeCast Cert.KernelIdeal.S1536x1024 x hc) := by
  refine eq_of_forall_ge_iff fun B => (hostMax_le _ h hu j B).trans ?_
  unfold amaxOf
  rw [iSup_le_iff]
  exact (shapeCast_le (fun i => eabs (x i)) hc B).symm

/-- What the precondition's three comparisons say. -/
theorem decode (a z lo hi : EReal)
    (h : (Ideal.cmp .oeq a z ||| (Ideal.cmp .oge a lo &&& Ideal.cmp .olt a hi)) = 1#1) : a = z ∨ (lo ≤ a ∧ a < hi) := by
  by_cases h1 : a = z
  · exact .inl h1
  by_cases h2 : lo ≤ a
  · by_cases h3 : a < hi
    · exact .inr ⟨h2, h3⟩
    · simp [Ideal.cmp, h1, h2, h3] at h
  · simp [Ideal.cmp, h1, h2] at h

/-- The pattern of zero. -/
theorem ofBits_zero : Ideal.ofBits .f32 0x00000000#32 = 0 := by
  simp [Ideal.ofBits, Ideal.ieee]

/-- The maximum that the precondition takes. -/
def preMax (x : FVec Ideal S6x256x1024 .bf16) : FVec Ideal S_ .f32 :=
  hostMax (Host.absf (extf .f32 x Cert.Pre_amax_zero_or_normal.Facts.bitsLt_bf16_f32))
    Cert.Pre_amax_zero_or_normal.Facts.reducesTo_S6x256x1024_S_d0_1_2 Cert.Pre_amax_zero_or_normal.Facts.h_S_

/-- The number that the precondition compares. -/
def preRatio (x : FVec Ideal S6x256x1024 .bf16) (j : S_.Idx) : EReal := preMax x j * Ideal.ofBits .f32 0x37924925#32

/-- The precondition's comparisons of a maximum. -/
def preWord (R : FVec Ideal S_ .f32) : IVec S_ 1 :=
  ori (cmpf .oeq (mulf R (constant S_ .f32 0x37924925#32)) (constant S_ .f32 0x00000000#32))
    (andi (cmpf .oge (mulf R (constant S_ .f32 0x37924925#32)) (constant S_ .f32 0x00800000#32))
      (cmpf .olt (mulf R (constant S_ .f32 0x37924925#32)) (constant S_ .f32 0x7E800000#32)))

/-- The comparisons, at the one place. -/
theorem preWord_apply (R : FVec Ideal S_ .f32) (a : EReal) (j : S_.Idx) (ha : a = (R j * Ideal.ofBits .f32 0x37924925#32 : EReal)) :
    preWord R j = (Ideal.cmp .oeq a (Ideal.ofBits .f32 0x00000000#32) |||
        (Ideal.cmp .oge a (Ideal.ofBits .f32 0x00800000#32) &&& Ideal.cmp .olt a (Ideal.ofBits .f32 0x7E800000#32))) := by
  subst ha; rfl

/-- The precondition is the comparisons of its maximum. -/
theorem pre_eq (x0 : FVec Ideal S6x256x1024 .bf16) (x1 : FVec Ideal Cert.Pre_amax_zero_or_normal.S6x256x5120 .fp8e4m3) (x2 : FVec Ideal S_ .f32)
    (x3 : FVec Ideal Cert.Pre_amax_zero_or_normal.S1024x5120 .fp8e4m3) (x4 : FVec Ideal S_ .f32) (x5 : FVec Ideal Cert.Pre_amax_zero_or_normal.S1024x5120 .f32) :
    Cert.Pre_amax_zero_or_normal.fn (F := Ideal) x0 x1 x2 x3 x4 x5 = preWord (preMax x0) := rfl

/-- That number is the one that the exponent is read from. -/
theorem preRatio_eq (x : FVec Ideal S6x256x1024 .bf16) (hc : S6x256x1024.ShapeCasts Cert.KernelIdeal.S1536x1024) (j : S_.Idx) :
    preRatio x j = ratioOf (shapeCast Cert.KernelIdeal.S1536x1024 x hc) := by
  unfold preRatio ratioOf preMax
  exact congrArg (· * Ideal.ofBits .f32 0x37924925#32) (hostMax_eq x hc _ _ j)

/-- The precondition is the condition on the gradient. -/
theorem good_of_pre (m : (ℓ : Loc Cert.KernelIdeal.nD Cert.KernelIdeal.τ Cert.KernelIdeal.sig) → Buf (Elt Ideal) ℓ)
    (h : Cert.Pre_KernelIdeal_amax_zero_or_normal m) (c : Dev Cert.KernelIdeal.nD) : Good (Cert.KernelIdeal.Hand.grad m c) := by
  have e := congrFun (h c) (fun d => d.elim0)
  rw [pre_eq, preWord_apply _ (preRatio _ _) _ rfl] at e
  have d := decode _ _ _ _ e
  rw [ofBits_zero, preRatio_eq _ Cert.KernelIdeal.Gen.shapeCasts_S6x256x1024_S1536x1024] at d
  rw [Cert.KernelIdeal.Hand.grad_eq]
  exact d

end Cert.Entry

end
-- ==== Proof.Algebraic.lean ====
/-
  The kernel and the reference end with equal results.
-/
module

public import proofs.«01_k».proof.Proof.Entry

@[expose] public section

set_option maxRecDepth 16384

noncomputable section

open Idealize.ShloMosaic Idealize.ShloMosaic.TcCoe Idealize.ShloMosaic.Tactic
open Idealize.SL.Sem

namespace Cert.KernelIdeal.Hand

open Cert.KernelIdeal Cert.KernelIdeal.Gen

variable (m : (ℓ : Loc nD τ sig) → Buf (Elt Ideal) ℓ) (ρ : Dev nD → PrngReg)

/-- The kernel ends with its results at the formulas of the arrays that it finds, and its arguments unchanged. -/
theorem run_values : θ_run defs (onTc (τ := τ) (main (F := Ideal))) ⟨m, fun _ => 0, ρ⟩ (fun r => ∀ c : Dev nD,
      r.2.mem ((c.tc : Thread nD τ).loc main_v4_0) = dxAll (wScale m c) (grad m c) (weights m c)
      ∧ r.2.mem ((c.tc : Thread nD τ).loc main_v4_1) = mgoAll (xScale m c) (grad m c) (acts m c) (oldGrad m c)
      ∧ r.2.mem ((c.tc : Thread nD τ).loc main_v4_3) = (fun _ => amaxOf (grad m c))
      ∧ r.2.mem ((c.tc : Thread nD τ).loc main_v4_2) = codesOf (grad m c)
      ∧ r.2.mem ((c.tc : Thread nD τ).loc main_v4_4) = (fun _ => scaleOf (grad m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (final6 m c), ((h.1 c).1 7).trans (final7 m c), ((h.1 c).1 9).trans (final9 m c),
      ((h.1 c).1 8).trans (final8 m c), ((h.1 c).1 10).trans (final10 m c), h.2 c⟩)
    (θ_run_and (run_main m ρ) (frame_of m ρ (dats m) (A_eq m) (run_main m ρ)))

end Cert.KernelIdeal.Hand

namespace Cert.ReferenceIdeal.Hand

open Cert.ReferenceIdeal Cert.ReferenceIdeal.Gen
open Cert.KernelIdeal.Hand (amaxOf scaleOf codesOf dxAll mgoAll)

variable (m : (ℓ : Loc nD τ sig) → Buf (Elt Ideal) ℓ) (ρ : Dev nD → PrngReg)

/-- Under the condition on the gradient the reference ends with its results at the same formulas, and its arguments
    unchanged. -/
theorem run_values (hg : ∀ c, Good (grad m c)) :
    θ_run defs (onTc (τ := τ) (main (F := Ideal))) ⟨m, fun _ => 0, ρ⟩ (fun r => ∀ c : Dev nD,
      r.2.mem ((c.tc : Thread nD τ).loc main_v4_0) = dxAll (wScale m c) (grad m c) (weights m c)
      ∧ r.2.mem ((c.tc : Thread nD τ).loc main_v4_1) = mgoAll (xScale m c) (grad m c) (acts m c) (oldGrad m c)
      ∧ r.2.mem ((c.tc : Thread nD τ).loc main_v4_2) = (fun _ => amaxOf (grad m c))
      ∧ r.2.mem ((c.tc : Thread nD τ).loc main_v4_3) = codesOf (grad m c)
      ∧ r.2.mem ((c.tc : Thread nD τ).loc main_v4_4) = (fun _ => scaleOf (grad m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => by
      obtain ⟨h0, h1, h2, h3, h4, h5⟩ := h c
      exact ⟨h0.trans (final6 m c (hg c)), h1.trans (final7 m c (hg c)), h2.trans (final8 m c), h3.trans (final9 m c (hg c)),
        h4.trans (final10 m c (hg c)), h5⟩)
    (Cert.ReferenceIdeal.Value.run_blocks m ρ)

end Cert.ReferenceIdeal.Hand

namespace Cert.Entry

open Cert.KernelIdeal.Hand (amaxOf scaleOf codesOf dxAll mgoAll)

section Same

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- Equal arguments, equal gradient. -/
theorem grad_same (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Hand.grad m' c = Cert.KernelIdeal.Hand.grad m c := by
  rw [Cert.ReferenceIdeal.Hand.grad_eq, Cert.KernelIdeal.Hand.grad_eq]
  exact congrArg (fun x => shapeCast Cert.KernelIdeal.S1536x1024 x Cert.KernelIdeal.Gen.shapeCasts_S6x256x1024_S1536x1024) h

/-- Equal arguments, equal activations. -/
theorem acts_same (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Hand.acts m' c = Cert.KernelIdeal.Hand.acts m c := by
  rw [Cert.ReferenceIdeal.Hand.acts_eq, Cert.KernelIdeal.Hand.acts_eq]
  exact congrArg (fun x => shapeCast Cert.KernelIdeal.S1536x5120 x Cert.KernelIdeal.Gen.shapeCasts_S6x256x5120_S1536x5120) h

/-- Equal arguments, equal activations' scale. -/
theorem xScale_same (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Hand.xScale m' c = Cert.KernelIdeal.Hand.xScale m c := by
  rw [Cert.ReferenceIdeal.Hand.xScale_eq, Cert.KernelIdeal.Hand.xScale_eq]
  exact congrArg (fun x => shapeCast Cert.KernelIdeal.S1 x Cert.KernelIdeal.Gen.shapeCasts_S_S1) h

/-- Equal arguments, equal weights' scale. -/
theorem wScale_same (h : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Hand.wScale m' c = Cert.KernelIdeal.Hand.wScale m c := by
  rw [Cert.ReferenceIdeal.Hand.wScale_eq, Cert.KernelIdeal.Hand.wScale_eq]
  exact congrArg (fun x => shapeCast Cert.KernelIdeal.S1 x Cert.KernelIdeal.Gen.shapeCasts_S_S1) h

/-- Equal arguments, equal weights. -/
theorem weights_same (h : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Hand.weights m' c = Cert.KernelIdeal.Hand.weights m c := by
  rw [Cert.ReferenceIdeal.Hand.weights_eq, Cert.KernelIdeal.Hand.weights_eq]
  exact h

/-- Equal arguments, equal old weight gradient. -/
theorem oldGrad_same (h : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Hand.oldGrad m' c = Cert.KernelIdeal.Hand.oldGrad m c := by
  rw [Cert.ReferenceIdeal.Hand.oldGrad_eq, Cert.KernelIdeal.Hand.oldGrad_eq]
  exact h

end Same

/-- The kernel and the reference end with equal results. -/
theorem algebraic : Cert.algebraic_KernelIdeal_ReferenceIdeal_pre_amax_zero_or_normal := by
  intro m g m' g' hpre h
  have e0 : ∀ c, Cert.ReferenceIdeal.Hand.grad m' c = Cert.KernelIdeal.Hand.grad m c := fun c => grad_same m m' c (h c).1
  have e1 : ∀ c, Cert.ReferenceIdeal.Hand.acts m' c = Cert.KernelIdeal.Hand.acts m c := fun c => acts_same m m' c (h c).2.1
  have e2 : ∀ c, Cert.ReferenceIdeal.Hand.xScale m' c = Cert.KernelIdeal.Hand.xScale m c := fun c => xScale_same m m' c (h c).2.2.1
  have e3 : ∀ c, Cert.ReferenceIdeal.Hand.weights m' c = Cert.KernelIdeal.Hand.weights m c := fun c => weights_same m m' c (h c).2.2.2.1
  have e4 : ∀ c, Cert.ReferenceIdeal.Hand.wScale m' c = Cert.KernelIdeal.Hand.wScale m c := fun c => wScale_same m m' c (h c).2.2.2.2.1
  have e5 : ∀ c, Cert.ReferenceIdeal.Hand.oldGrad m' c = Cert.KernelIdeal.Hand.oldGrad m c := fun c => oldGrad_same m m' c (h c).2.2.2.2.2
  have hg : ∀ c, Cert.ReferenceIdeal.Hand.Good (Cert.ReferenceIdeal.Hand.grad m' c) := fun c => by
    rw [e0 c]; exact good_of_pre m hpre c
  have hr := Cert.ReferenceIdeal.Hand.run_values m' g' hg
  refine ⟨fun c => dxAll (Cert.KernelIdeal.Hand.wScale m c) (Cert.KernelIdeal.Hand.grad m c) (Cert.KernelIdeal.Hand.weights m c),
    fun c => mgoAll (Cert.KernelIdeal.Hand.xScale m c) (Cert.KernelIdeal.Hand.grad m c) (Cert.KernelIdeal.Hand.acts m c) (Cert.KernelIdeal.Hand.oldGrad m c),
    fun c => (fun _ => amaxOf (Cert.KernelIdeal.Hand.grad m c)), fun c => codesOf (Cert.KernelIdeal.Hand.grad m c),
    fun c => (fun _ => scaleOf (Cert.KernelIdeal.Hand.grad m c)), Cert.KernelIdeal.Hand.run_values m g, ?_⟩
  refine (θ_run _ _ _).mono (fun r q c => ?_) hr
  obtain ⟨q0, q1, q2, q3, q4, q5⟩ := q c
  rw [e0 c, e3 c, e4 c] at q0
  rw [e0 c, e1 c, e2 c, e5 c] at q1
  rw [e0 c] at q2 q3 q4
  exact ⟨q0, q1, q2, q3, q4, q5⟩

end Cert.Entry

end
-- ==== Proof.BRuns.lean ====
/-
  What the two runs of the kernel body (at the first grid point, and at the other nine) share: the condition of the
  body's conditional in closed form, where the windows are idle, the staging and scratch memrefs by name, and the
  region's invariant with the two scratch buffers split out.
-/
module

public import proofs.«01_k».proof.Proof.Gen.Kernel.Frame
public import proofs.«01_k».proof.Proof.Gen.Kernel.Skeleton

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, k0_cond1, e0]
    word_cmp
   : ∀ t : Fin grid0.N, cond0_0 (grid0.coords t) ↔ t.val % 10 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x512 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1536x1024 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .smem S1 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S1024x1536 .fp8e5m2 := Memref.whole cc0_scratch0
abbrev scM0_1 : Memref sig .tc .smem S1 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.BRunA.lean ====
/-
  The kernel body at the first grid point: it quantises the gradient into the codes window and the two scratch
  buffers, then does the two products of its column block.
-/
module

public import proofs.«01_k».proof.Proof.BRuns

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, at the first point, in each output's staging memref and in each scratch buffer, as
    lists of pieces (last first), with the proof that on whole memrefs the body runs to a continuation that holds the
    inputs as they were and every other buffer with its pieces written. -/
noncomputable def runA (c : Dev nD) (i : grid0.Coords) (arg1 : Memref sig .tc .smem S1 .f32) (harg1 : arg1.IsWhole) (arg2 : Memref sig .tc .smem S1 .f32) (harg2 : arg2.IsWhole) (arg3 : Memref sig .tc .vmem S1536x1024 .bf16) (harg3 : arg3.IsWhole) (arg4 : Memref sig .tc .vmem S1536x512 .fp8e4m3) (harg4 : arg4.IsWhole) (arg5 : Memref sig .tc .vmem S1024x512 .fp8e4m3) (harg5 : arg5.IsWhole) (arg6 : Memref sig .tc .vmem S1024x512 .f32) (harg6 : arg6.IsWhole) (arg7 : Memref sig .tc .vmem S1536x512 .bf16) (harg7 : arg7.IsWhole) (arg8 : Memref sig .tc .vmem S1024x512 .f32) (harg8 : arg8.IsWhole) (arg9 : Memref sig .tc .vmem S1536x1024 .fp8e5m2) (harg9 : arg9.IsWhole) (arg10 : Memref sig .tc .smem S1 .f32) (harg10 : arg10.IsWhole) (arg11 : Memref sig .tc .smem S1 .f32) (harg11 : arg11.IsWhole) (arg12 : Memref sig .tc .vmem S1024x1536 .fp8e5m2) (harg12 : arg12.IsWhole) (arg13 : Memref sig .tc .smem S1 .f32) (harg13 : arg13.IsWhole) (hc0 : cond0_0 i)
    (x0 : Vec F S1 .f32) (x1 : Vec F S1 .f32) (x2 : Vec F S1536x1024 .bf16) (x3 : Vec F S1536x512 .fp8e4m3) (x4 : Vec F S1024x512 .fp8e4m3) (x5 : Vec F S1024x512 .f32) :
    Σ' (L7 : List (View.Piece (Elt F) S1536x512 .bf16)), Σ' (L8 : List (View.Piece (Elt F) S1024x512 .f32)), Σ' (L9 : List (View.Piece (Elt F) S1536x1024 .fp8e5m2)), Σ' (L10 : List (View.Piece (Elt F) S1 .f32)), Σ' (L11 : List (View.Piece (Elt F) S1 .f32)), Σ' (L12 : List (View.Piece (Elt F) S1024x1536 .fp8e5m2)), { L13 : List (View.Piece (Elt F) S1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, ?_, fun E K => ?run⟩
  case run =>
    simp only [cc0__body_eq_skeleton]; unfold cc0__body_skel
    simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %g7, -, G7⟩, ⟨%d8, %g8, -, G8⟩, ⟨%d9, %g9, -, G9⟩, ⟨%d10, %g10, -, G10⟩, ⟨%d11, %g11, -, G11⟩, ⟨%d12, %g12, -, G12⟩, ⟨%d13, %g13, -, G13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [G7]
    · iexists _; iexact G7
    isplitl [G8]
    · iexists _; iexact G8
    isplitl [G9]
    · iexists _; iexact G9
    isplitl [G10]
    · iexists _; iexact G10
    isplitl [G11]
    · iexists _; iexact G11
    isplitl [G12]
    · iexists _; iexact G12
    iexists _; iexact G13

end Cert.Kernel.Hand

end
-- ==== Proof.BRunB.lean ====
/-
  The kernel body at a grid point after the first: it reads the codes, their transpose and the scale that the first
  point left, and does the two products of its column block.
-/
module

public import proofs.«01_k».proof.Proof.BRunA

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, at a later point, in the two products' staging memrefs, as lists of pieces, with the
    proof that the body runs to a continuation that holds the inputs, the codes, their transpose and the scale as they
    were. -/
noncomputable def runB (c : Dev nD) (i : grid0.Coords) (arg1 : Memref sig .tc .smem S1 .f32) (harg1 : arg1.IsWhole) (arg2 : Memref sig .tc .smem S1 .f32) (harg2 : arg2.IsWhole) (arg3 : Memref sig .tc .vmem S1536x1024 .bf16) (harg3 : arg3.IsWhole) (arg4 : Memref sig .tc .vmem S1536x512 .fp8e4m3) (harg4 : arg4.IsWhole) (arg5 : Memref sig .tc .vmem S1024x512 .fp8e4m3) (harg5 : arg5.IsWhole) (arg6 : Memref sig .tc .vmem S1024x512 .f32) (harg6 : arg6.IsWhole) (arg7 : Memref sig .tc .vmem S1536x512 .bf16) (harg7 : arg7.IsWhole) (arg8 : Memref sig .tc .vmem S1024x512 .f32) (harg8 : arg8.IsWhole) (arg9 : Memref sig .tc .vmem S1536x1024 .fp8e5m2) (harg9 : arg9.IsWhole) (arg10 : Memref sig .tc .smem S1 .f32) (harg10 : arg10.IsWhole) (arg11 : Memref sig .tc .smem S1 .f32) (harg11 : arg11.IsWhole) (arg12 : Memref sig .tc .vmem S1024x1536 .fp8e5m2) (harg12 : arg12.IsWhole) (arg13 : Memref sig .tc .smem S1 .f32) (harg13 : arg13.IsWhole) (hc0 : ¬cond0_0 i)
    (x0 : Vec F S1 .f32) (x1 : Vec F S1 .f32) (x2 : Vec F S1536x1024 .bf16) (x3 : Vec F S1536x512 .fp8e4m3) (x4 : Vec F S1024x512 .fp8e4m3) (x5 : Vec F S1024x512 .f32) (y9 : Vec F S1536x1024 .fp8e5m2) (y12 : Vec F S1024x1536 .fp8e5m2) (y13 : Vec F S1 .f32) :
    Σ' (L7 : List (View.Piece (Elt F) S1536x512 .bf16)), { L8 : List (View.Piece (Elt F) S1024x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare y9 ∗ owns (c : Thread nD τ) arg12 fullShare y12 ∗ owns (c : Thread nD τ) arg13 fullShare y13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ owns (c : Thread nD τ) arg9 fullShare y9 ∗ owns (c : Thread nD τ) arg12 fullShare y12 ∗ owns (c : Thread nD τ) arg13 fullShare y13) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %g7, -, G7⟩, ⟨%d8, %g8, -, G8⟩, ⟨%fy9, %hfy9, Y9⟩, ⟨%fy12, %hfy12, Y12⟩, ⟨%fy13, %hfy13, Y13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfy9; obtain rfl := harg12.eq_unread hfy12; obtain rfl := harg13.eq_unread hfy13
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [G7]
    · iexists _; iexact G7
    isplitl [G8]
    · iexists _; iexact G8
    isplitl [Y9]
    · iexists _; isplitr; · ipureintro; exact harg9.read_unread _
      iexact Y9
    isplitl [Y12]
    · iexists _; isplitr; · ipureintro; exact harg12.read_unread _
      iexact Y12
    iexists _; isplitr; · ipureintro; exact harg13.read_unread _
    iexact Y13

end Cert.Kernel.Hand

end
-- ==== Proof.BFrame.lean ====
/-
  The kernel ends without fault and leaves its argument arrays as they were, for any reading of the floats: nothing is
  said of what it writes.
-/
module

public import proofs.«01_k».proof.Proof.BRunB
public import proofs.«01_k».proof.Proof.BRunA
public import proofs.«01_k».proof.Proof.Gen.Kernel.Frame

@[expose] public section

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents the frame does not name: the outputs. -/
def fgt : Fin cfg0.W → Bool := fun w => match w with
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true

/-- The proof data of the pipeline on one core: the inputs stay, the scratch buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
  Φ _ := Pipeline.ΦA spec0 c
  q _ := fullShare
  owed _ := 0

/-- The arrays are as the region finds them. -/
theorem A_eq (c : Dev nD) (w : Fin cfg0.W) : (dats m 0 c).A w = V m c (Pipeline.arrRef spec0 w) := by
  dsimp only [dats]

/-- What the body leaves in window 0's buffer. -/
theorem after0_0 (c : Dev nD) (t : Fin cfg0.N) : (dats m 0 c).after 0 t = iblk m c 0 t := by dsimp only [dats]
/-- What the body leaves in window 1's buffer. -/
theorem after0_1 (c : Dev nD) (t : Fin cfg0.N) : (dats m 0 c).after 1 t = iblk m c 1 t := by dsimp only [dats]
/-- What the body leaves in window 2's buffer. -/
theorem after0_2 (c : Dev nD) (t : Fin cfg0.N) : (dats m 0 c).after 2 t = iblk m c 2 t := by dsimp only [dats]
/-- What the body leaves in window 3's buffer. -/
theorem after0_3 (c : Dev nD) (t : Fin cfg0.N) : (dats m 0 c).after 3 t = iblk m c 3 t := by dsimp only [dats]
/-- What the body leaves in window 4's buffer. -/
theorem after0_4 (c : Dev nD) (t : Fin cfg0.N) : (dats m 0 c).after 4 t = iblk m c 4 t := by dsimp only [dats]
/-- What the body leaves in window 5's buffer. -/
theorem after0_5 (c : Dev nD) (t : Fin cfg0.N) : (dats m 0 c).after 5 t = iblk m c 5 t := by dsimp only [dats]
/-- What the body finds in window 0's buffer. -/
theorem before0_0 (c : Dev nD) (t : Fin cfg0.N) (d) : (dats m 0 c).before 0 t d = iblk m c 0 t :=
  before0_0_of m (dats m 0 c) (A_eq m c 0) (after0_0 m c) t d
/-- What the body finds in window 1's buffer. -/
theorem before0_1 (c : Dev nD) (t : Fin cfg0.N) (d) : (dats m 0 c).before 1 t d = iblk m c 1 t :=
  before0_1_of m (dats m 0 c) (A_eq m c 1) (after0_1 m c) t d
/-- What the body finds in window 2's buffer. -/
theorem before0_2 (c : Dev nD) (t : Fin cfg0.N) (d) : (dats m 0 c).before 2 t d = iblk m c 2 t :=
  before0_2_of m (dats m 0 c) (A_eq m c 2) (after0_2 m c) t d
/-- What the body finds in window 3's buffer. -/
theorem before0_3 (c : Dev nD) (t : Fin cfg0.N) (d) : (dats m 0 c).before 3 t d = iblk m c 3 t :=
  before0_3_of m (dats m 0 c) (A_eq m c 3) (after0_3 m c) t d
/-- What the body finds in window 4's buffer. -/
theorem before0_4 (c : Dev nD) (t : Fin cfg0.N) (d) : (dats m 0 c).before 4 t d = iblk m c 4 t :=
  before0_4_of m (dats m 0 c) (A_eq m c 4) (after0_4 m c) t d
/-- What the body finds in window 5's buffer. -/
theorem before0_5 (c : Dev nD) (t : Fin cfg0.N) (d) : (dats m 0 c).before 5 t d = iblk m c 5 t :=
  before0_5_of m (dats m 0 c) (A_eq m c 5) (after0_5 m c) t d

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ X, owns (c : Thread nD τ) (ms0_6 t) fullShare X)
    ∗ (∃ X, owns (c : Thread nD τ) (ms0_7 t) fullShare X)
    ∗ (∃ X, owns (c : Thread nD τ) (ms0_8 t) fullShare X)
    ∗ (∃ X, owns (c : Thread nD τ) (ms0_9 t) fullShare X)
    ∗ (∃ X, owns (c : Thread nD τ) (ms0_10 t) fullShare X))

/-- What the body returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ X, owns (c : Thread nD τ) (ms0_6 t) fullShare X)
    ∗ (∃ X, owns (c : Thread nD τ) (ms0_7 t) fullShare X)
    ∗ (∃ X, owns (c : Thread nD τ) (ms0_8 t) fullShare X)
    ∗ (∃ X, owns (c : Thread nD τ) (ms0_9 t) fullShare X)
    ∗ (∃ X, owns (c : Thread nD τ) (ms0_10 t) fullShare X))

/-- Contents written by pieces are some contents. -/
theorem owns_writes (c : Dev nD) {sp : Space} {s : Shape} {e : EltTy} (M : Memref sig .tc sp s e) (L : List (View.Piece (Elt F) s e)) :
    iprop(∃ f, M.view.loc (c : Thread nD τ) ↦[M.view.set]{fullShare} M.view.writes (Elt F) f L)
      ⊢ (iprop(∃ X, owns (c : Thread nD τ) M fullShare X) : sProp 𝕄) := by
  iintro ⟨%f, H⟩
  unfold owns
  iexists _; iexists _; isplitr
  swap; · iexact H
  ipureintro; rfl

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, after0_0, after0_1, after0_2, after0_3, after0_4, after0_5]
  rw [show (dats m 0 c).owesAt () t.succ = (dats m 0 c).owesAt () t.castSucc from rfl,
    show (dats m 0 c).Φ t.castSucc = Pipeline.ΦA spec0 c from rfl, show (dats m 0 c).Φ t.succ = Pipeline.ΦA spec0 c from rfl, PhiA0_eq]
  by_cases h0 : cond0_0 (grid0.coords t)
  · iintro ⟨⟨⟨HS0, HS1⟩, Hg⟩, Ho, ⟨%d0, H0⟩, ⟨%d1, H1⟩, ⟨%d2, H2⟩, ⟨%d3, H3⟩, ⟨%d4, H4⟩, ⟨%d5, H5⟩, H6, H7, H8, H9, H10⟩
    iapply ((runA (F := F) c (grid0.coords t) _ _ _ _ _ _ _ _ _ _ _ _ _ _ _ _ _ _ _ _ _ _ _ _ _ _ h0 (iblk m c 0 t) (iblk m c 1 t) (iblk m c 2 t) (iblk m c 3 t) (iblk m c 4 t) (iblk m c 5 t)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · iapply (owns_writes c _ _); iexact HS0
        iapply (owns_writes c _ _); iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (owns_writes c _ _); iexact H6
    isplitl [H7]; · iapply (owns_writes c _ _); iexact H7
    isplitl [H8]; · iapply (owns_writes c _ _); iexact H8
    isplitl [H9]; · iapply (owns_writes c _ _); iexact H9
    iapply (owns_writes c _ _); iexact H10
  · iintro ⟨⟨⟨⟨%y12, HS0⟩, ⟨%y13, HS1⟩⟩, Hg⟩, Ho, ⟨%d0, H0⟩, ⟨%d1, H1⟩, ⟨%d2, H2⟩, ⟨%d3, H3⟩, ⟨%d4, H4⟩, ⟨%d5, H5⟩, H6, H7, ⟨%y9, H8⟩, H9, H10⟩
    iapply ((runB (F := F) c (grid0.coords t) _ _ _ _ _ _ _ _ _ _ _ _ _ _ _ _ _ _ (ms0_9 t) (hs0_9 t) (ms0_10 t) (hs0_10 t) _ _ _ _ h0 (iblk m c 0 t) (iblk m c 1 t) (iblk m c 2 t) (iblk m c 3 t) (iblk m c 4 t) (iblk m c 5 t) y9 y12 y13).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HS0 HS1 Hg]
    · isplitl [HS0 HS1]
      · isplitl [HS0]
        · iexists _; iexact HS0
        iexists _; iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iapply (owns_writes c _ _); iexact H6
    isplitl [H7]; · iapply (owns_writes c _ _); iexact H7
    isplitl [H8]; · iexists _; iexact H8
    isplitl [H9]; · iexact H9
    iexact H10

/-- The body table's row at a point's slots is the body at that point. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := F)) Variants.none () Set.univ fgt := fun t => by
  rw [bigSep_W0, bigSep_W0, defs₀_row]
  exact triple_restated (sound_body m c t) rfl .rfl fun _ => .rfl

/-- Every execution ends with the inputs as they were and every semaphore at zero. -/
theorem run_main_quiescent : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The kernel ends with its argument arrays unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      (Pipeline.RDat.FramePost.arr_in h.1 c 4 rfl).trans ((A_eq m c 4).trans (V_main_arg3 m c)),
      ((h.1 c).2 main_arg4 (Pipeline.mem_restRefs_of main_arg4 (by decide) (by decide))).trans (V_main_arg4 m c),
      (Pipeline.RDat.FramePost.arr_in h.1 c 5 rfl).trans ((A_eq m c 5).trans (V_main_arg5 m c))⟩, h.2⟩) (run_main_quiescent m ρ)

end Cert.Kernel.Hand

end
-- ==== Proof.lean ====
/-
  The five claims about the linear layer's backward pass: the kernel, its ideal program and the ideal reference end
  without fault and leave their arguments unchanged; the ideal program is the kernel over the extended reals; and the
  kernel and the reference end with equal results.
-/
module

public import proofs.«01_k».proof.Defs
public import proofs.«01_k».proof.Proof.Gen.Kernel.Frame
public import proofs.«01_k».proof.Proof.Gen.Kernel.Skeleton
public import proofs.«01_k».proof.Proof.Gen.KernelIdeal.Frame
public import proofs.«01_k».proof.Proof.Gen.KernelIdeal.Skeleton
public import proofs.«01_k».proof.Proof.Gen.ReferenceIdeal.Frame
public import proofs.«01_k».proof.Proof.Gen.ReferenceIdeal.Value
public import proofs.«01_k».proof.Proof.Gen.Pre_amax_zero_or_normal
public import proofs.«01_k».proof.Proof.Algebraic
public import proofs.«01_k».proof.Proof.BFrame
public import Idealize.ShloMosaic.Adequacy
public import Idealize.ShloMosaic.Init

@[expose] public section

noncomputable section

namespace Cert.Proof

open Idealize.ShloMosaic Idealize.SL.Sem Cert.Kernel

/-- The claims of the certificate. -/
theorem claim : Cert.Claim :=
  ⟨Cert.Kernel.Gen.facts, Cert.KernelIdeal.Gen.facts, Cert.ReferenceIdeal.Gen.facts, Cert.Pre_amax_zero_or_normal.Gen.facts,
    fun m g _ => Cert.Kernel.Hand.frame m g,
    fun m g _ => Cert.KernelIdeal.Hand.frame m g,
    fun m g _ => Cert.KernelIdeal.Hand.frame m g,
    fun m g _ => Cert.ReferenceIdeal.Gen.frame m g,
    fun m g _ => Cert.ReferenceIdeal.Gen.frame m g,
    trivial,
    Cert.Entry.algebraic⟩

end Cert.Proof

end
